-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v52) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .bf16) (main_arg1 : FVec F S1024x1024 .bf16) (main_arg2 : FVec F S1x1024x32x128 .bf16) (main_arg3 : FVec F S1x1024x32x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x32x128 .f32 := (extf .f32 · bitsLt_bf16_f32) main_arg2
  let main_v12 : FVec F S1x1024x32x128 .f32 := Host.absf main_v11
  let main_cst_2 : FVec F S_ .f32 := constant S_ .f32 0x7F800000#32
  let main_v13 : FVec F S1x1024x32x128 .f32 := broadcastInDim S1x1024x32x128 ![] bcast_S_S1x1024x32x128 main_cst_2
  let main_v14 : IVec S1x1024x32x128 1 := cmpf .olt main_v12 main_v13
  let main_c_3 : IVec S_ 1 := constantI S_ 1 1#1
  let main_v15 : IVec S_ 1 := (fun x v => Host.reduce IntOp.andi x v reducesTo_S1x1024x32x128_S_d0_1_2_3 h_S_) main_v14 main_c_3
  let main_v16 : IVec S_ 1 := andi main_v10 main_v15
  main_v16
-- ==== Pre_finite_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .bf16) (main_arg1 : FVec F S1024x4096 .bf16) (main_arg2 : FVec F S1x1024x32x128 .bf16) (main_arg3 : FVec F S1x1024x32x128 .bf16) (main_arg4 : FVec F S4096x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x1024x32x128 .f32 := (extf .f32 · bitsLt_bf16_f32) main_arg2
  let main_v12 : FVec F S1x1024x32x128 .f32 := Host.absf main_v11
  let main_cst_2 : FVec F S_ .f32 := constant S_ .f32 0x7F800000#32
  let main_v13 : FVec F S1x1024x32x128 .f32 := broadcastInDim S1x1024x32x128 ![] bcast_S_S1x1024x32x128 main_cst_2
  let main_v14 : IVec S1x1024x32x128 1 := cmpf .olt main_v12 main_v13
  let main_c_3 : IVec S_ 1 := constantI S_ 1 1#1
  let main_v15 : IVec S_ 1 := (fun x v => Host.reduce IntOp.andi x v reducesTo_S1x1024x32x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩
abbrev S1024x32x128 : Shape := ⟨3, ![1024, 32, 128]⟩
abbrev S1024x8x128 : Shape := ⟨3, ![1024, 8, 128]⟩
abbrev S8x1024x128 : Shape := ⟨3, ![8, 1024, 128]⟩
abbrev S32 : Shape := ⟨1, ![32]⟩
abbrev S128x1024 : Shape := ⟨2, ![128, 1024]⟩
abbrev S128x384 : Shape := ⟨2, ![128, 384]⟩
abbrev S128x512 : Shape := ⟨2, ![128, 512]⟩
abbrev S128x640 : Shape := ⟨2, ![128, 640]⟩
abbrev S128x128 : Shape := ⟨2, ![128, 128]⟩
abbrev S128x256 : Shape := ⟨2, ![128, 256]⟩
abbrev S1x1024x128 : Shape := ⟨3, ![1, 1024, 128]⟩
abbrev S1024x128 : Shape := ⟨2, ![1024, 128]⟩
abbrev S128 : Shape := ⟨1, ![128]⟩
abbrev S128x1 : Shape := ⟨2, ![128, 1]⟩
abbrev S1 : Shape := ⟨1, ![1]⟩
abbrev S1x384x128 : Shape := ⟨3, ![1, 384, 128]⟩
abbrev S384x128 : Shape := ⟨2, ![384, 128]⟩
abbrev S1x512x128 : Shape := ⟨3, ![1, 512, 128]⟩
abbrev S512x128 : Shape := ⟨2, ![512, 128]⟩
abbrev S1x640x128 : Shape := ⟨3, ![1, 640, 128]⟩
abbrev S640x128 : Shape := ⟨2, ![640, 128]⟩
abbrev S1x128x128 : Shape := ⟨3, ![1, 128, 128]⟩
abbrev S1x256x128 : Shape := ⟨3, ![1, 256, 128]⟩
abbrev S256x128 : Shape := ⟨2, ![256, 128]⟩

abbrev nBuf : Space → Nat
  | .hbm => 38
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x32x128, .bf16⟩
  | .hbm, ⟨3, _⟩ => ⟨S1x1024x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x32x128, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x8x128, .bf16⟩
  | .hbm, ⟨22, _⟩ => ⟨S8x1024x128, .bf16⟩
  | .hbm, ⟨23, _⟩ => ⟨S1024x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .bf16⟩
  | .hbm, ⟨34, _⟩ => ⟨S8x1024x128, .bf16⟩
  | .hbm, ⟨35, _⟩ => ⟨S1024x1024, .bf16⟩
  | .hbm, ⟨36, _⟩ => ⟨S1024x1024, .bf16⟩
  | .hbm, ⟨37, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 2 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_151 : BitVec 32 := 1#32
  let v374 : BitVec 32 := Scalar.muli v3 c1_i32_151
  let v375 : BitVec 32 := Scalar.addi c0_i32_152 v374
  v375.toNat
def k0_dev2 (d0 : Dev nD) : Nat :=
  let c0_i32_155 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_154 : BitVec 32 := 1#32
  let v376 : BitVec 32 := Scalar.muli v4 c1_i32_154
  let v377 : BitVec 32 := Scalar.addi c0_i32_155 v376
  v377.toNat
def k0_dev3 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_158 : BitVec 32 := 1#32
  let v378 : BitVec 32 := Scalar.muli v3 c1_i32_158
  let v379 : BitVec 32 := Scalar.addi c0_i32_159 v378
  v379.toNat
def k0_dev4 (d0 : Dev nD) : Nat :=
  let c0_i32_167 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_166 : BitVec 32 := 1#32
  let v386 : BitVec 32 := Scalar.muli v4 c1_i32_166
  let v387 : BitVec 32 := Scalar.addi c0_i32_167 v386
  v387.toNat
def k0_dev5 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_248 : BitVec 32 := 1#32
  let v520 : BitVec 32 := Scalar.muli v3 c1_i32_248
  let v521 : BitVec 32 := Scalar.addi c0_i32_249 v520
  v521.toNat
def k0_dev6 (d0 : Dev nD) : Nat :=
  let c0_i32_257 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_256 : BitVec 32 := 1#32
  let v528 : BitVec 32 := Scalar.muli v4 c1_i32_256
  let v529 : BitVec 32 := Scalar.addi c0_i32_257 v528
  v529.toNat
def k0_dev7 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_338 : BitVec 32 := 1#32
  let v662 : BitVec 32 := Scalar.muli v3 c1_i32_338
  let v663 : BitVec 32 := Scalar.addi c0_i32_339 v662
  v663.toNat
def k0_dev8 (d0 : Dev nD) : Nat :=
  let c0_i32_346 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_345 : BitVec 32 := 1#32
  let v670 : BitVec 32 := Scalar.muli v4 c1_i32_345
  let v671 : BitVec 32 := Scalar.addi c0_i32_346 v670
  v671.toNat
def k0_dev9 (d0 : Dev nD) : Nat :=
  let c0_i32_374 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_373 : BitVec 32 := 1#32
  let v694 : BitVec 32 := Scalar.muli v4 c1_i32_373
  let v695 : BitVec 32 := Scalar.addi c0_i32_374 v694
  v695.toNat
def k0_dev10 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_400 : BitVec 32 := 1#32
  let v718 : BitVec 32 := Scalar.muli v3 c1_i32_400
  let v719 : BitVec 32 := Scalar.addi c0_i32_401 v718
  v719.toNat
def k0_dev11 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_481 : BitVec 32 := 1#32
  let v852 : BitVec 32 := Scalar.muli v3 c1_i32_481
  let v853 : BitVec 32 := Scalar.addi c0_i32_482 v852
  v853.toNat
def k0_dev12 (d0 : Dev nD) : Nat :=
  let c0_i32_489 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_488 : BitVec 32 := 1#32
  let v860 : BitVec 32 := Scalar.muli v4 c1_i32_488
  let v861 : BitVec 32 := Scalar.addi c0_i32_489 v860
  v861.toNat
def k0_dev13 (d0 : Dev nD) : Nat :=
  let c0_i32_517 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_516 : BitVec 32 := 1#32
  let v884 : BitVec 32 := Scalar.muli v4 c1_i32_516
  let v885 : BitVec 32 := Scalar.addi c0_i32_517 v884
  v885.toNat
def k0_dev14 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_544 : BitVec 32 := 1#32
  let v908 : BitVec 32 := Scalar.muli v3 c1_i32_544
  let v909 : BitVec 32 := Scalar.addi c0_i32_545 v908
  v909.toNat
def k0_dev15 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_674 : BitVec 32 := 1#32
  let v1090 : BitVec 32 := Scalar.muli v3 c1_i32_674
  let v1091 : BitVec 32 := Scalar.addi c0_i32_675 v1090
  v1091.toNat
def k0_dev16 (d0 : Dev nD) : Nat :=
  let c0_i32_682 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_681 : BitVec 32 := 1#32
  let v1098 : BitVec 32 := Scalar.muli v4 c1_i32_681
  let v1099 : BitVec 32 := Scalar.addi c0_i32_682 v1098
  v1099.toNat
def k0_dev17 (d0 : Dev nD) : Nat :=
  let c0_i32_710 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_709 : BitVec 32 := 1#32
  let v1122 : BitVec 32 := Scalar.muli v4 c1_i32_709
  let v1123 : BitVec 32 := Scalar.addi c0_i32_710 v1122
  v1123.toNat
def k0_dev18 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_737 : BitVec 32 := 1#32
  let v1146 : BitVec 32 := Scalar.muli v3 c1_i32_737
  let v1147 : BitVec 32 := Scalar.addi c0_i32_738 v1146
  v1147.toNat
def k0_dev19 (d0 : Dev nD) : Nat :=
  let c0_i32_867 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_866 : BitVec 32 := 1#32
  let v1328 : BitVec 32 := Scalar.muli v3 c1_i32_866
  let v1329 : BitVec 32 := Scalar.addi c0_i32_867 v1328
  v1329.toNat
def k0_dev20 (d0 : Dev nD) : Nat :=
  let c0_i32_874 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_873 : BitVec 32 := 1#32
  let v1336 : BitVec 32 := Scalar.muli v4 c1_i32_873
  let v1337 : BitVec 32 := Scalar.addi c0_i32_874 v1336
  v1337.toNat
def k0_dev21 (d0 : Dev nD) : Nat :=
  let c0_i32_902 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_901 : BitVec 32 := 1#32
  let v1360 : BitVec 32 := Scalar.muli v4 c1_i32_901
  let v1361 : BitVec 32 := Scalar.addi c0_i32_902 v1360
  v1361.toNat
def k0_dev22 (d0 : Dev nD) : Nat :=
  let c0_i32_930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_929 : BitVec 32 := 1#32
  let v1384 : BitVec 32 := Scalar.muli v3 c1_i32_929
  let v1385 : BitVec 32 := Scalar.addi c0_i32_930 v1384
  v1385.toNat
def k0_dev23 (d0 : Dev nD) : Nat :=
  let c0_i32_1101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1100 : BitVec 32 := 1#32
  let v1594 : BitVec 32 := Scalar.muli v3 c1_i32_1100
  let v1595 : BitVec 32 := Scalar.addi c0_i32_1101 v1594
  v1595.toNat
def k0_dev24 (d0 : Dev nD) : Nat :=
  let c0_i32_1108 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1107 : BitVec 32 := 1#32
  let v1602 : BitVec 32 := Scalar.muli v4 c1_i32_1107
  let v1603 : BitVec 32 := Scalar.addi c0_i32_1108 v1602
  v1603.toNat
def k0_dev25 (d0 : Dev nD) : Nat :=
  let c0_i32_1136 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1135 : BitVec 32 := 1#32
  let v1626 : BitVec 32 := Scalar.muli v4 c1_i32_1135
  let v1627 : BitVec 32 := Scalar.addi c0_i32_1136 v1626
  v1627.toNat
def k0_dev26 (d0 : Dev nD) : Nat :=
  let c0_i32_1164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1163 : BitVec 32 := 1#32
  let v1650 : BitVec 32 := Scalar.muli v3 c1_i32_1163
  let v1651 : BitVec 32 := Scalar.addi c0_i32_1164 v1650
  v1651.toNat
def k0_dev27 (d0 : Dev nD) : Nat :=
  let c0_i32_1335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1334 : BitVec 32 := 1#32
  let v1860 : BitVec 32 := Scalar.muli v3 c1_i32_1334
  let v1861 : BitVec 32 := Scalar.addi c0_i32_1335 v1860
  v1861.toNat
def k0_dev28 (d0 : Dev nD) : Nat :=
  let c0_i32_1342 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1341 : BitVec 32 := 1#32
  let v1868 : BitVec 32 := Scalar.muli v4 c1_i32_1341
  let v1869 : BitVec 32 := Scalar.addi c0_i32_1342 v1868
  v1869.toNat
def k0_dev29 (d0 : Dev nD) : Nat :=
  let c0_i32_1370 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1369 : BitVec 32 := 1#32
  let v1892 : BitVec 32 := Scalar.muli v4 c1_i32_1369
  let v1893 : BitVec 32 := Scalar.addi c0_i32_1370 v1892
  v1893.toNat
def k0_dev30 (d0 : Dev nD) : Nat :=
  let c0_i32_1398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1397 : BitVec 32 := 1#32
  let v1916 : BitVec 32 := Scalar.muli v3 c1_i32_1397
  let v1917 : BitVec 32 := Scalar.addi c0_i32_1398 v1916
  v1917.toNat
def k0_dev31 (d0 : Dev nD) : Nat :=
  let c0_i32_1468 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1467 : BitVec 32 := 1#32
  let v1968 : BitVec 32 := Scalar.muli v4 c1_i32_1467
  let v1969 : BitVec 32 := Scalar.addi c0_i32_1468 v1968
  v1969.toNat
def k0_dev32 (d0 : Dev nD) : Nat :=
  let c0_i32_1496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1495 : BitVec 32 := 1#32
  let v1992 : BitVec 32 := Scalar.muli v3 c1_i32_1495
  let v1993 : BitVec 32 := Scalar.addi c0_i32_1496 v1992
  v1993.toNat
def k0_dev33 (d0 : Dev nD) : Nat :=
  let c0_i32_1524 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1523 : BitVec 32 := 1#32
  let v2016 : BitVec 32 := Scalar.muli v4 c1_i32_1523
  let v2017 : BitVec 32 := Scalar.addi c0_i32_1524 v2016
  v2017.toNat
def k0_dev34 (d0 : Dev nD) : Nat :=
  let c0_i32_1552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1551 : BitVec 32 := 1#32
  let v2040 : BitVec 32 := Scalar.muli v3 c1_i32_1551
  let v2041 : BitVec 32 := Scalar.addi c0_i32_1552 v2040
  v2041.toNat
def k0_dev35 (d0 : Dev nD) : Nat :=
  let c0_i32_1769_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1768_r0 : BitVec 32 := 1#32
  let v2189_r0 : BitVec 32 := Scalar.muli v3 c1_i32_1768_r0
  let v2190_r0 : BitVec 32 := Scalar.addi c0_i32_1769_r0 v2189_r0
  v2190_r0.toNat
def k0_dev36 (d0 : Dev nD) : Nat :=
  let c0_i32_1772_r0 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1771_r0 : BitVec 32 := 1#32
  let v2191_r0 : BitVec 32 := Scalar.muli v4 c1_i32_1771_r0
  let v2192_r0 : BitVec 32 := Scalar.addi c0_i32_1772_r0 v2191_r0
  v2192_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1024x1024 : Shape := ⟨2, ![1024, 1024]⟩
abbrev S1024x32x128 : Shape := ⟨3, ![1024, 32, 128]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S1x1024x1 : Shape := ⟨3, ![1, 1024, 1]⟩
abbrev S32x128x1024 : Shape := ⟨3, ![32, 128, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x32x128, .bf16⟩
  | .hbm, ⟨3, _⟩ => ⟨S1x1024x32x128, .bf16⟩
  | .hbm, ⟨4, _⟩ => ⟨S4096x1024, .bf16⟩
  | .hbm, ⟨5, _⟩ => ⟨S1024x1024, .bf16⟩
  | .hbm, ⟨6, _⟩ => ⟨S1024x4096, .f32⟩
  | .hbm, ⟨7, _⟩ => ⟨S1024x4096, .bf16⟩
  | .hbm, ⟨8, _⟩ => ⟨S1024x32x128, .bf16⟩
  | .hbm, ⟨9, _⟩ => ⟨S1024, .i32⟩
  | .hbm, ⟨10, _⟩ => ⟨S1024x1, .i32⟩
  | .hbm, ⟨11, _⟩ => ⟨S1024, .i32⟩
  | .hbm, ⟨12, _⟩ => ⟨S1x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S_, .i32⟩
  | .hbm, ⟨21, _⟩ => ⟨S1x1024, .i32⟩
  | .hbm, ⟨22, _⟩ => ⟨S1x1024, .i1⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1024x1024, .i1⟩
  | .hbm, ⟨27, _⟩ => ⟨S1024x1024, .i1⟩
  | .hbm, ⟨28, _⟩ => ⟨S1024x1024, .i1⟩
  | .hbm, ⟨29, _⟩ => ⟨S1024x1024, .i1⟩
  | .hbm, ⟨30, _⟩ => ⟨S1024x32x128, .bf16⟩
  | .hbm, ⟨31, _⟩ => ⟨S32x1024x1024, .f32⟩
  | .hbm, ⟨32, _⟩ => ⟨S32x1024x1024, .bf16⟩
  | .hbm, ⟨33, _⟩ => ⟨S32x1024x1024, .f32⟩
  | .hbm, ⟨34, _⟩ => ⟨S_, .f32⟩
  | .hbm, ⟨35, _⟩ => ⟨S32x1024x1024, .f32⟩
  | .hbm, ⟨36, _⟩ => ⟨S32x1024x1024, .f32⟩
  | .hbm, ⟨37, _⟩ => ⟨S1x1024x1024, .i1⟩
  | .hbm, ⟨38, _⟩ => ⟨S_, .f32⟩
  | .hbm, ⟨39, _⟩ => ⟨S_, .f32⟩
  | .hbm, ⟨40, _⟩ => ⟨S32x1024x1024, .i1⟩
  | .hbm, ⟨41, _⟩ => ⟨S32x1024x1024, .f32⟩
  | .hbm, ⟨42, _⟩ => ⟨S32x1024x1024, .f32⟩
  | .hbm, ⟨43, _⟩ => ⟨S_, .f32⟩
  | .hbm, ⟨44, _⟩ => ⟨S32x1024, .f32⟩
  | .hbm, ⟨45, _⟩ => ⟨S32x1024x1, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .i1⟩
  | .hbm, ⟨50, _⟩ => ⟨S1024, .i1⟩
  | .hbm, ⟨51, _⟩ => ⟨S1x1024x1, .i1⟩
  | .hbm, ⟨52, _⟩ => ⟨S_, .f32⟩
  | .hbm, ⟨53, _⟩ => ⟨S32x1024, .f32⟩
  | .hbm, ⟨54, _⟩ => ⟨S32x1024x1, .f32⟩
  | .hbm, ⟨55, _⟩ => ⟨S_, .f32⟩
  | .hbm, ⟨56, _⟩ => ⟨S_, .f32⟩
  | .hbm, ⟨57, _⟩ => ⟨S32x1024x1, .i1⟩
  | .hbm, ⟨58, _⟩ => ⟨S32x1024x1, .f32⟩
  | .hbm, ⟨59, _⟩ => ⟨S32x1024x1, .f32⟩
  | .hbm, ⟨60, _⟩ => ⟨S32x1024x1024, .f32⟩
  | .hbm, ⟨61, _⟩ => ⟨S32x1024x1024, .f32⟩
  | .hbm, ⟨62, _⟩ => ⟨S1x1024x1, .i1⟩
  | .hbm, ⟨63, _⟩ => ⟨S_, .f32⟩
  | .hbm, ⟨64, _⟩ => ⟨S_, .f32⟩
  | .hbm, ⟨65, _⟩ => ⟨S32x1024x1024, .i1⟩
  | .hbm, ⟨66, _⟩ => ⟨S32x1024x1024, .f32⟩
  | .hbm, ⟨67, _⟩ => ⟨S32x1024x1024, .f32⟩
  | .hbm, ⟨68, _⟩ => ⟨S1024x32x128, .bf16⟩
  | .hbm, ⟨69, _⟩ => ⟨S1024x32x128, .f32⟩
  | .hbm, ⟨70, _⟩ => ⟨S32x128x1024, .f32⟩
  | .hbm, ⟨71, _⟩ => ⟨S1024x32x128, .f32⟩
  | .hbm, ⟨72, _⟩ => ⟨S1024x4096, .f32⟩
  | .hbm, ⟨73, _⟩ => ⟨S4096x1024, .f32⟩
  | .hbm, ⟨74, _⟩ => ⟨S1024x1024, .f32⟩
  | .hbm, ⟨75, _⟩ => ⟨S1024x1024, .bf16⟩
  | .hbm, ⟨76, _⟩ => ⟨S1x1024x1024, .bf16⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.Program.lean ====
/- The kernel of one device written in its regular form: eight chunks of rows, each computed over the
   columns its band of keys covers, and per chunk and column half a copy, a sum and a second copy. The
   printed function is this program. -/
module

public import proofs.«01_k».proof.Proof.Gen.KernelIdeal.Skeleton

@[expose] public section

set_option maxRecDepth 16384

noncomputable section

namespace Cert.KernelIdeal.Butterfly

open Idealize.ShloMosaic Idealize.SL.Sem
open Cert.KernelIdeal Cert.KernelIdeal.Gen

variable {F : FTy → Type} [FloatOps F] [Named F]

/-! ## Bands of keys -/

/-- Scores of 128 query rows against `w` keys. -/
abbrev Sc (w : ℕ) : Shape := ⟨2, ![128, w]⟩
/-- `w` keys or values of one head. -/
abbrev Sk (w : ℕ) : Shape := ⟨2, ![w, 128]⟩
/-- `w` keys or values of one head as they lie in the array of all heads. -/
abbrev Sl (w : ℕ) : Shape := ⟨3, ![1, w, 128]⟩

/-- A run of `w` consecutive keys from key `c₀`, with the shape facts reading it needs. -/
structure Piece where
  w : ℕ
  c₀ : ℕ
  cast : (Sl w).ShapeCasts (Sk w)
  pos : 0 < (Sl w).numel
  inb : ∀ h : Fin 8, ∀ a, (![h.val, c₀, 0] : Fin 3 → ℕ) a + (Sl w).size a ≤ S8x1024x128.size a
  iota₀ : (Sc w).Iotas .tc 32 [0]
  iota₁ : (Sc w).Iotas .tc 32 [1]

/-- The keys one chunk of rows attends to, `w` in all, with the shape facts the attention needs. -/
structure Band where
  w : ℕ
  red : (Sc w).Reduces [1] S128
  qk : DotDims.WF S128x128 (Sk w) (Sc w) [1] [1] [0] [0] [] []
  ev : DotDims.WF (Sc w) (Sk w) S128x128 [1] [0] [0] [1] [] []

/-- A band of two runs of keys. -/
structure Pair (B : Band) where
  p₀ : Piece
  p₁ : Piece
  catK : Shape.Concatenates [Sk p₀.w, Sk p₁.w] (Sk B.w) 0
  catB : Shape.Concatenates [Sc p₀.w, Sc p₁.w] (Sc B.w) 1

def dotQK (B : Band) : DotDims S128x128 (Sk B.w) (Sc B.w) where
  lhsContracting := [1]
  rhsContracting := [1]
  lhsNonContracting := [0]
  rhsNonContracting := [0]
  lhsBatch := []
  rhsBatch := []
  wf := B.qk

def dotEV (B : Band) : DotDims (Sc B.w) (Sk B.w) S128x128 where
  lhsContracting := [1]
  rhsContracting := [0]
  lhsNonContracting := [0]
  rhsNonContracting := [1]
  lhsBatch := []
  rhsBatch := []
  wf := B.ev

/-- What is added to the scores of rows `128 c …` at the keys of a run: zero where the row sees the key,
    the masking constant where it does not. -/
def biasOf (c : Fin 8) (p : Piece) : FVec F (Sc p.w) .f32 :=
  have qi : IVec (Sc p.w) 32 := addi (iota .tc (Sc p.w) 32 [0] p.iota₀) (broadcast (Sc p.w) (BitVec.ofNat 32 (128 * c.val)))
  have ki : IVec (Sc p.w) 32 := addi (iota .tc (Sc p.w) 32 [1] p.iota₁) (broadcast (Sc p.w) (BitVec.ofNat 32 p.c₀))
  select (ori (ori (cmpi .sle (absi (subi qi ki)) (broadcast (Sc p.w) 128#32)) (cmpi .slt ki (broadcast (Sc p.w) 32#32)))
      (cmpi .slt qi (broadcast (Sc p.w) 32#32)))
    (broadcast (Sc p.w) (Scalar.ofBits .f32 0x00000000#32 : F .f32)) (broadcast (Sc p.w) (Named.named κ "mask" 0xCE6E6B28#32 : F .f32))

/-- The same over two runs side by side. -/
def biasPair (c : Fin 8) {B : Band} (P : Pair B) : FVec F (Sc B.w) .f32 :=
  concatenate (Sc B.w) 1 [⟨Sc P.p₀.w, biasOf c P.p₀⟩, ⟨Sc P.p₁.w, biasOf c P.p₁⟩] P.catB

theorem slices_q : ∀ (c h : Fin 8), S1024x1024.Slices ![128 * c.val, 128 * h.val] S128x128 := by decide

/-- One head of one chunk: the weighted mean of the values `v` under the exponentials of the biased scores. -/
def headOut (B : Band) (c h : Fin 8) (qm : FVec F S1024x1024 .bf16) (bias : FVec F (Sc B.w) .f32)
    (k v : FVec F (Sk B.w) .bf16) : FVec F S128x128 .bf16 :=
  have q : FVec F S128x128 .bf16 := extractStridedSlice S128x128 ![128 * c.val, 128 * h.val] qm (slices_q c h)
  have e : FVec F (Sc B.w) .f32 := exp (addf (matmul (dotQK B) none q k (constant (Sc B.w) .f32 0x00000000#32)) bias)
  have den : FVec F S128x1 .f32 := shapeCast S128x1 (multiReduction .add [1] S128 e 0x00000000#32 B.red (.inl rfl) rfl) shapeCasts_S128_S128x1
  have num : FVec F S128x128 .f32 := matmul (dotEV B) none (truncf .bf16 e bitsLt_bf16_f32) v (constant S128x128 .f32 0x00000000#32)
  truncf .bf16 (divf num (broadcastTo S128x128 den broadcasts_S128x1_S128x128)) bitsLt_bf16_f32

/-- The eight heads of a chunk side by side. -/
def ctxOf (o : Fin 8 → FVec F S128x128 .bf16) : FVec F S128x1024 .bf16 :=
  concatenate S128x1024 1 [⟨S128x128, o 0⟩, ⟨S128x128, o 1⟩, ⟨S128x128, o 2⟩, ⟨S128x128, o 3⟩, ⟨S128x128, o 4⟩, ⟨S128x128, o 5⟩, ⟨S128x128, o 6⟩, ⟨S128x128, o 7⟩]
    concatenates_S128x128_S128x128_S128x128_S128x128_S128x128_S128x128_S128x128_S128x128_S128x1024_d1

/-- A chunk's rows of this device's share of the output projection. -/
def rowsOf (wo : FVec F S1024x1024 .bf16) (ctx : FVec F S128x1024 .bf16) : FVec F S128x1024 .bf16 :=
  shapeCast S128x1024 (truncf .bf16 (matmul dot_S128x1024_S1024x1024_S128x1024_1_0_0_1_n_n none ctx wo
    (constant S128x1024 .f32 0x00000000#32)) bitsLt_bf16_f32) shapeCasts_S128x1024_S128x1024

def piece1024 : Piece := ⟨1024, 0, shapeCasts_S1x1024x128_S1024x128, h_S1x1024x128, by decide, iota_S128x1024_d0_w32, iota_S128x1024_d1_w32⟩
def piece384 : Piece := ⟨384, 0, shapeCasts_S1x384x128_S384x128, h_S1x384x128, by decide, iota_S128x384_d0_w32, iota_S128x384_d1_w32⟩
def piece512 : Piece := ⟨512, 0, shapeCasts_S1x512x128_S512x128, h_S1x512x128, by decide, iota_S128x512_d0_w32, iota_S128x512_d1_w32⟩
def piece640 : Piece := ⟨640, 0, shapeCasts_S1x640x128_S640x128, h_S1x640x128, by decide, iota_S128x640_d0_w32, iota_S128x640_d1_w32⟩
def piece128 : Piece := ⟨128, 0, shapeCasts_S1x128x128_S128x128, h_S1x128x128, by decide, iota_S128x128_d0_w32, iota_S128x128_d1_w32⟩
def piece384At (c₀ : ℕ) (h : c₀ ≤ 640) : Piece :=
  ⟨384, c₀, shapeCasts_S1x384x128_S384x128, h_S1x384x128, by
    intro h a; fin_cases a <;> simp <;> omega, iota_S128x384_d0_w32, iota_S128x384_d1_w32⟩
def piece256 : Piece := ⟨256, 768, shapeCasts_S1x256x128_S256x128, h_S1x256x128, by decide, iota_S128x256_d0_w32, iota_S128x256_d1_w32⟩

def band1024 : Band := ⟨1024, reduces_S128x1024_S128, dot_S128x128_S1024x128_S128x1024_1_1_0_0_n_n_wf, dot_S128x1024_S1024x128_S128x128_1_0_0_1_n_n_wf⟩
def band384 : Band := ⟨384, reduces_S128x384_S128, dot_S128x128_S384x128_S128x384_1_1_0_0_n_n_wf, dot_S128x384_S384x128_S128x128_1_0_0_1_n_n_wf⟩
def band512 : Band := ⟨512, reduces_S128x512_S128, dot_S128x128_S512x128_S128x512_1_1_0_0_n_n_wf, dot_S128x512_S512x128_S128x128_1_0_0_1_n_n_wf⟩
def band640 : Band := ⟨640, reduces_S128x640_S128, dot_S128x128_S640x128_S128x640_1_1_0_0_n_n_wf, dot_S128x640_S640x128_S128x128_1_0_0_1_n_n_wf⟩

def pair512 (c₀ : ℕ) (h : c₀ ≤ 640) : Pair band512 := ⟨piece128, piece384At c₀ h, concatenates_S128x128_S384x128_S512x128_d0, concatenates_S128x128_S128x384_S128x512_d1⟩
def pair384 : Pair band384 := ⟨piece128, piece256, concatenates_S128x128_S256x128_S384x128_d0, concatenates_S128x128_S128x256_S128x384_d1⟩

/-! ## The blocks the copies move -/

theorem inb_blk : ∀ (c : Fin 8) (s : Fin 2) (a), (![128 * c.val, 512 * s.val] : Fin 2 → ℕ) a + S128x512.size a ≤ S1024x1024.size a := by decide
theorem inb_row : ∀ (c : Fin 8) (a), (![128 * c.val, 0] : Fin 2 → ℕ) a + S128x1024.size a ≤ S1024x1024.size a := by decide
theorem inb_cell : ∀ (t : Fin 2) (c : Fin 8) (s : Fin 2) (a), (![16 * t.val + (2 * c.val + s.val)] : Fin 1 → ℕ) a + S1.size a ≤ S32.size a := by decide

/-- Rows `128 c …` of column half `s`. -/
abbrev blk (c : Fin 8) (s : Fin 2) : Rect S1024x1024 := Rect.unit (s := S1024x1024) ![128 * c.val, 512 * s.val] S128x512.size (inb_blk c s)
/-- Rows `128 c …`. -/
abbrev row (c : Fin 8) : Rect S1024x1024 := Rect.unit (s := S1024x1024) ![128 * c.val, 0] S128x1024.size (inb_row c)

theorem words_blk : ∀ (c : Fin 8) (s : Fin 2), (blk c s).WholeWords (EltTy.packing .bf16) := by decide
theorem packed_blk : ∀ (c : Fin 8) (s : Fin 2), (blk c s).PackedRows (EltTy.packing .bf16) := by decide
theorem packed_row : ∀ (c : Fin 8), (row c).PackedRows (EltTy.packing .bf16) := by decide

/-- A 1024×1024 buffer of the kernel. -/
abbrev Mat := Memref sig .tc .vmem S1024x1024 .bf16
/-- The keys or values of a device's eight heads. -/
abbrev Heads := Memref sig .tc .vmem S8x1024x128 .bf16

/-- The buffers and semaphores the kernel runs on. -/
structure Bufs where
  x : Mat
  hx : x.IsWhole
  wq : Mat
  hwq : wq.IsWhole
  k : Heads
  hk : k.IsWhole
  v : Heads
  hv : v.IsWhole
  wo : Mat
  hwo : wo.IsWhole
  out : Mat
  hout : out.IsWhole
  p : Mat
  hp : p.IsWhole
  r₁ : Mat
  hr₁ : r₁.IsWhole
  a : Mat
  ha : a.IsWhole
  r₂ : Mat
  hr₂ : r₂.IsWhole
  snd : DmaSems sig S32
  rcv : DmaSems sig S32
  fin : Sems sig S_

/-- The block `(c, s)` of a buffer as a buffer of its own. -/
abbrev sub (m : Mat) (c : Fin 8) (s : Fin 2) : Memref sig .tc .vmem S128x512 .bf16 := m.slice (blk c s) (fun _ => rfl)

/-- The semaphore of round `t`'s copy of block `(c, s)`. -/
abbrev at_ (a : DmaSems sig S32) (t : Fin 2) (c : Fin 8) (s : Fin 2) : DmaSems sig S_ :=
  (a.slice (Rect.unit (s := S32) ![16 * t.val + (2 * c.val + s.val)] S1.size (inb_cell t c s))).squeeze S_ squeezes_S1_S_

/-- The two partners of a device: the neighbour (`0`) and the mirror image (`1`). -/
def part : Fin 2 → Dev nD → Dev nD
  | 0, d => ⟨k0_dev1 d, k0_dev1_lt d⟩
  | 1, d => ⟨k0_dev2 d, k0_dev2_lt d⟩

/-- A program of the kernel. -/
abbrev KProg (F : FTy → Type) [FloatOps F] [Named F] (α : Type) := Prog (TpuEff nD τ sig (Elt F) Λ₀ .tc) α

/-- Send block `(c, s)` of `src` to the partner's `dst` for round `t`. -/
def send (B : Bufs) (d : Dev nD) (t : Fin 2) (src : Mat) (hs : src.IsWhole) (dst : Mat) (hd : dst.IsWhole) (c : Fin 8) (s : Fin 2) : KProg F PUnit :=
  Prog.lift (.enqueueDma (sub src c s) (.remote (Dev.tc (part (s + t) d)) (sub dst c s) (.dma (at_ B.snd t c s).sem)) (.dma (at_ B.rcv t c s).sem)
    (hs.wordExact_slice rfl _ (words_blk c s)) (hd.wordExact_slice rfl _ (words_blk c s)) ⟨⟨rfl, Or.inl rfl⟩, trivial⟩)

/-- Wait for round `t`'s copy of block `(c, s)` to have left, then for the partner's to have arrived. -/
def await (B : Bufs) (t : Fin 2) (src : Mat) (hs : src.IsWhole) (dst : Mat) (hd : dst.IsWhole) (c : Fin 8) (s : Fin 2) : KProg F PUnit := do
  Prog.lift (.waitDma2 (at_ B.snd t c s).sem (sub dst c s) (sub src c s) (hd.wordExact_slice rfl _ (words_blk c s)) (hs.wordExact_slice rfl _ (words_blk c s)))
  Prog.lift (.waitDma2 (at_ B.rcv t c s).sem (sub src c s) (sub dst c s) (hs.wordExact_slice rfl _ (words_blk c s)) (hd.wordExact_slice rfl _ (words_blk c s)))

/-- Read block `(c, s)`. -/
def readBlk (m : Mat) (c : Fin 8) (s : Fin 2) : KProg F (Vec F S128x512 .bf16) :=
  Prog.lift (.load m (blk c s).toLoadRect (View.loadsAt_vmem h_S128x512))

/-- Write block `(c, s)`. -/
def writeBlk (m : Mat) (hm : m.IsWhole) (c : Fin 8) (s : Fin 2) (w : FVec F S128x512 .bf16) : KProg F PUnit :=
  Prog.lift (.store m (blk c s) w Finset.univ (View.stores_vmem h_S128x512 (hm.storeExact_slice rfl _ (packed_blk c s)) (fun _ => rfl)) (.inl rfl))

/-- After the first copy: add what arrived to what was sent, and send the sum on. -/
def advance (B : Bufs) (d : Dev nD) (c : Fin 8) (s : Fin 2) : KProg F PUnit := do
  await B 0 B.p B.hp B.r₁ B.hr₁ c s
  let a ← readBlk B.p c s
  let b ← readBlk B.r₁ c s
  let _ ← readBlk B.a c s
  writeBlk B.a B.ha c s (shapeCast S128x512 (addf (F := F) a b) shapeCasts_S128x512_S128x512)
  send B d 1 B.a B.ha B.r₂ B.hr₂ c s

/-- After the second copy: add what arrived to the sum and write it to the result. -/
def drain (B : Bufs) (c : Fin 8) (s : Fin 2) : KProg F PUnit := do
  await B 1 B.a B.ha B.r₂ B.hr₂ c s
  let a ← readBlk B.a c s
  let b ← readBlk B.r₂ c s
  let _ ← readBlk B.out c s
  writeBlk B.out B.hout c s (addf (F := F) a b)

def issue (B : Bufs) (d : Dev nD) (c : Fin 8) (s : Fin 2) : KProg F PUnit := send B d 0 B.p B.hp B.r₁ B.hr₁ c s

/-- Tell both partners and hear from both. -/
def meet (d : Dev nD) (sem : Sem sig) : KProg F PUnit := do
  semSignalWord (part 0 d) sem 1#32
  semSignalWord (part 1 d) sem 1#32
  semWaitWord sem 2#32

/-- The keys (or values) of a run, of head `h`. -/
def readRun (m : Heads) (p : Piece) (h : Fin 8) : KProg F (FVec F (Sk p.w) .bf16) := do
  let z : Vec F (Sl p.w) .bf16 ← Prog.lift (.load m (Rect.unit (s := S8x1024x128) ![h.val, p.c₀, 0] (Sl p.w).size (p.inb h)).toLoadRect (View.loadsAt_vmem p.pos))
  pure (shapeCast (Sk p.w) z p.cast)

/-- The keys (or values) of a band of two runs, of head `h`. -/
def joinRuns {B : Band} (P : Pair B) (y : FVec F (Sk P.p₀.w) .bf16) (z : FVec F (Sk P.p₁.w) .bf16) : FVec F (Sk B.w) .bf16 :=
  concatenate (Sk B.w) 0 [⟨Sk P.p₀.w, y⟩, ⟨Sk P.p₁.w, z⟩] P.catK

/-- One head over a band of two runs. -/
def headTwo (B : Bufs) {W : Band} (P : Pair W) (c : Fin 8) (qm : FVec F S1024x1024 .bf16) (h : Fin 8) : KProg F (FVec F S128x128 .bf16) := do
  let k₀ ← readRun B.k P.p₀ h
  let k₁ ← readRun B.k P.p₁ h
  let v₀ ← readRun B.v P.p₀ h
  let v₁ ← readRun B.v P.p₁ h
  pure (headOut W c h qm (biasPair c P) (joinRuns P k₀ k₁) (joinRuns P v₀ v₁))

/-- One head over a band of one run. -/
def headOne (B : Bufs) (p : Piece) (red : (Sc p.w).Reduces [1] S128) (qk : DotDims.WF S128x128 (Sk p.w) (Sc p.w) [1] [1] [0] [0] [] [])
    (ev : DotDims.WF (Sc p.w) (Sk p.w) S128x128 [1] [0] [0] [1] [] []) (c : Fin 8) (qm : FVec F S1024x1024 .bf16) (h : Fin 8) :
    KProg F (FVec F S128x128 .bf16) := do
  let k ← readRun B.k p h
  let v ← readRun B.v p h
  pure (headOut ⟨p.w, red, qk, ev⟩ c h qm (biasOf c p) k v)

/-- One chunk: its eight heads, projected and stored. -/
def chunk (B : Bufs) (wo : FVec F S1024x1024 .bf16) (c : Fin 8) (head : Fin 8 → KProg F (FVec F S128x128 .bf16)) : KProg F PUnit := do
  let o₀ ← head 0
  let o₁ ← head 1
  let o₂ ← head 2
  let o₃ ← head 3
  let o₄ ← head 4
  let o₅ ← head 5
  let o₆ ← head 6
  let o₇ ← head 7
  let _ : Vec F S128x1024 .bf16 ← Prog.lift (.load B.p (row c).toLoadRect (View.loadsAt_vmem h_S128x1024))
  Prog.lift (.store B.p (row c) (rowsOf wo (ctxOf ![o₀, o₁, o₂, o₃, o₄, o₅, o₆, o₇])) Finset.univ
    (View.stores_vmem h_S128x1024 (B.hp.storeExact_slice rfl _ (packed_row c)) (fun _ => rfl)) (.inl rfl))

/-- Both halves. -/
def both (f : Fin 2 → KProg F PUnit) : KProg F PUnit := do
  f 0
  f 1

/-- The head of chunk `c`. -/
def headAt (B : Bufs) (qm : FVec F S1024x1024 .bf16) : Fin 8 → Fin 8 → KProg F (FVec F S128x128 .bf16)
  | 0 => headOne B piece1024 band1024.red band1024.qk band1024.ev 0 qm
  | 1 => headOne B piece384 band384.red band384.qk band384.ev 1 qm
  | 2 => headOne B piece512 band512.red band512.qk band512.ev 2 qm
  | 3 => headOne B piece640 band640.red band640.qk band640.ev 3 qm
  | 4 => headTwo B (pair512 384 (by decide)) 4 qm
  | 5 => headTwo B (pair512 512 (by decide)) 5 qm
  | 6 => headTwo B (pair512 640 (by decide)) 6 qm
  | 7 => headTwo B pair384 7 qm

/-- The kernel. -/
def kern (B : Bufs) : KProg F PUnit := do
  let d : Dev nD ← Prog.lift .deviceId
  let x : Vec F S1024x1024 .bf16 ← Prog.lift (.load B.x (Rect.unit (s := S1024x1024) ![0, 0] S1024x1024.size inb_S1024x1024_S1024x1024_0_0).toLoadRect (View.loadsAt_vmem h_S1024x1024))
  let wq : Vec F S1024x1024 .bf16 ← Prog.lift (.load B.wq (Rect.unit (s := S1024x1024) ![0, 0] S1024x1024.size inb_S1024x1024_S1024x1024_0_0).toLoadRect (View.loadsAt_vmem h_S1024x1024))
  let wo : Vec F S1024x1024 .bf16 ← Prog.lift (.load B.wo (Rect.unit (s := S1024x1024) ![0, 0] S1024x1024.size inb_S1024x1024_S1024x1024_0_0).toLoadRect (View.loadsAt_vmem h_S1024x1024))
  let qm := k0_pay2 x wq
  let wo := k0_pay3 wo
  let step (c : Fin 8) : KProg F PUnit := chunk B wo c (headAt B qm c)
  step 0
  meet d (SemArray.scalar (sig.barrier 0 rfl) : Sems sig S_).sem
  both (issue B d 0)
  step 1
  both (issue B d 1)
  step 2
  both (issue B d 2)
  both (advance B d 0)
  step 3
  both (issue B d 3)
  both (advance B d 1)
  step 4
  both (issue B d 4)
  both (advance B d 2)
  step 5
  both (issue B d 5)
  both (advance B d 3)
  both (drain B 0)
  step 6
  both (issue B d 6)
  both (advance B d 4)
  both (drain B 1)
  step 7
  both (issue B d 7)
  both (advance B d 5)
  both (drain B 2)
  both (advance B d 6)
  both (advance B d 7)
  both (drain B 3)
  both (drain B 4)
  both (drain B 5)
  both (drain B 6)
  both (drain B 7)
  meet d B.fin.sem

end Cert.KernelIdeal.Butterfly

end
-- ==== Proof.ProgramEq.lean ====
module

public import proofs.«01_k».proof.Proof.Program

@[expose] public section

set_option maxRecDepth 65536

noncomputable section

namespace Cert.KernelIdeal.Butterfly

open Idealize.ShloMosaic Idealize.SL.Sem
open Cert.KernelIdeal Cert.KernelIdeal.Gen

variable {F : FTy → Type} [FloatOps F] [Named F]

set_option maxHeartbeats 4000000 in
/-- The printed kernel is the program in its regular form. -/
theorem body_eq (B : Bufs) :
    cc0__fused_body (F := F) B.x B.hx B.wq B.hwq B.k B.hk B.v B.hv B.wo B.hwo B.out B.hout B.p B.hp B.r₁ B.hr₁ B.a B.ha B.r₂ B.hr₂ B.snd B.rcv B.fin = kern B := by
  rw [cc0__fused_body_eq_skeleton]
  rfl

end Cert.KernelIdeal.Butterfly

end
-- ==== Proof.Protocol.lean ====
/- The copies' protocol: every copy and every meeting has semaphores of its own, each used for one round. A
   device may start copying once both of its partners have met it; what it gets by meeting a partner is the
   partner's landing blocks. -/
module

public import proofs.«01_k».proof.Proof.ProgramEq
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The pipeline's rounds and the copies' rounds, the latter with two duties a round. -/
abbrev UU : Type := URounds (GSem nD τ sig) Unit × URounds (GSem nD τ sig) (Fin 2)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 2)) (MT nD τ sig Unit (Elt F) ℕ UU ℕ) := embR

/-! ## Partners -/

theorem part_part (k : Fin 2) (d : Dev nD) : part k (part k d) = d := by revert k d; decide
theorem part_ne (k : Fin 2) (d : Dev nD) : part k d ≠ d := by revert k d; decide
theorem part_inj (d : Dev nD) : part 0 d ≠ part 1 d := by revert d; decide

/-- A partner as a permutation of the devices. -/
def partner (k : Fin 2) : Dev nD ≃ Dev nD := ⟨part k, part k, part_part k, part_part k⟩

/-! ## The buffers -/

/-- The buffers and semaphores the kernel is launched on. -/
abbrev bufs : Bufs where
  x := Memref.whole cc0_stg0_0
  hx := Memref.isWhole_whole _
  wq := Memref.whole cc0_stg1_0
  hwq := Memref.isWhole_whole _
  k := Memref.whole cc0_stg2_0
  hk := Memref.isWhole_whole _
  v := Memref.whole cc0_stg3_0
  hv := Memref.isWhole_whole _
  wo := Memref.whole cc0_stg4_0
  hwo := Memref.isWhole_whole _
  out := Memref.whole cc0_stg5_0
  hout := Memref.isWhole_whole _
  p := Memref.whole cc0_scratch0
  hp := Memref.isWhole_whole _
  r₁ := Memref.whole cc0_scratch1
  hr₁ := Memref.isWhole_whole _
  a := Memref.whole cc0_scratch2
  ha := Memref.isWhole_whole _
  r₂ := Memref.whole cc0_scratch3
  hr₂ := Memref.isWhole_whole _
  snd := cc0_scratch4
  rcv := cc0_scratch5
  fin := cc0_scoped0

/-- The kernel as the launch calls it is the structured program on these buffers. -/
theorem body_kern : cc0__fused_body (F := F) bufs.x bufs.hx bufs.wq bufs.hwq bufs.k bufs.hk bufs.v bufs.hv bufs.wo bufs.hwo bufs.out bufs.hout
    bufs.p bufs.hp bufs.r₁ bufs.hr₁ bufs.a bufs.ha bufs.r₂ bufs.hr₂ bufs.snd bufs.rcv bufs.fin = kern bufs := body_eq bufs

/-- The buffer round `t` copies from. -/
abbrev srcM (t : Fin 2) : Mat := if t = 0 then bufs.p else bufs.a
/-- The buffer round `t` copies into. -/
abbrev dstM (t : Fin 2) : Mat := if t = 0 then bufs.r₁ else bufs.r₂

/-! ## The cells -/

abbrev barS : Sem sig := (SemArray.scalar (sig.barrier 0 rfl) : Sems sig S_).sem
abbrev finS : Sem sig := bufs.fin.sem

/-- The copies' semaphores, in a row: `u = 0` for what has left, `u = 1` for what has arrived. -/
abbrev dmaAt (u t : Fin 2) (c : Fin 8) (s : Fin 2) : DmaSem sig := ⟨6 + (32 * u.val + (16 * t.val + (2 * c.val + s.val))), by
  have := u.isLt; have := t.isLt; have := c.isLt; have := s.isLt
  show _ < 70
  omega⟩

theorem snd_eq : ∀ (t : Fin 2) (c : Fin 8) (s : Fin 2), (at_ bufs.snd t c s).sem = dmaAt 0 t c s := by decide
theorem rcv_eq : ∀ (t : Fin 2) (c : Fin 8) (s : Fin 2), (at_ bufs.rcv t c s).sem = dmaAt 1 t c s := by decide

abbrev barCell (d : Dev nD) : GSem nD τ sig := ((d : Thread nD τ), .reg barS)
abbrev finCell (d : Dev nD) : GSem nD τ sig := ((d : Thread nD τ), .reg finS)
abbrev cpCell (u : Fin 2) (d : Dev nD) (t : Fin 2) (c : Fin 8) (s : Fin 2) : GSem nD τ sig := ((d : Thread nD τ), .dma (dmaAt u t c s))
abbrev sndCell : Dev nD → Fin 2 → Fin 8 → Fin 2 → GSem nD τ sig := cpCell 0
abbrev rcvCell : Dev nD → Fin 2 → Fin 8 → Fin 2 → GSem nD τ sig := cpCell 1

/-- Which copy a semaphore of the row belongs to. -/
def codeU (q : ℕ) : Fin 2 := ⟨(q - 6) / 32 % 2, Nat.mod_lt _ (by decide)⟩
def codeT (q : ℕ) : Fin 2 := ⟨(q - 6) / 16 % 2, Nat.mod_lt _ (by decide)⟩
def codeC (q : ℕ) : Fin 8 := ⟨(q - 6) / 2 % 8, Nat.mod_lt _ (by decide)⟩
def codeS (q : ℕ) : Fin 2 := ⟨(q - 6) % 2, Nat.mod_lt _ (by decide)⟩

theorem code_at (u t : Fin 2) (c : Fin 8) (s : Fin 2) :
    codeU (dmaAt u t c s).val = u ∧ codeT (dmaAt u t c s).val = t ∧ codeC (dmaAt u t c s).val = c ∧ codeS (dmaAt u t c s).val = s := by
  have := u.isLt; have := t.isLt; have := c.isLt; have := s.isLt
  refine ⟨Fin.ext ?_, Fin.ext ?_, Fin.ext ?_, Fin.ext ?_⟩ <;> simp only [codeU, codeT, codeC, codeS, dmaAt] <;> omega

/-- The elements a copy moves, in the semaphores' units. -/
abbrev N : ℕ := (sub bufs.r₁ 0 0).view.dmaCredit
theorem N_pos : 0 < N := View.dmaCredit_pos _ (by decide)
theorem amount_dst : ∀ (t : Fin 2) (c : Fin 8) (s : Fin 2) (q : DmaSem sig), (sub (dstM t) c s).view.amount (.dma q) = N := by
  intro t c s q
  fin_cases t <;> rfl

/-! ## Contents

`P d c s` is what device `d` computes for block `(c, s)`. -/

/-- A block's contents. -/
abbrev Blk (F : FTy → Type) [FloatOps F] [Named F] : Type := S128x512.Idx → Elt F .bf16

variable (P : Dev nD → Fin 8 → Fin 2 → Blk F)

/-- The sum after the first round, -/
def sum1 (d : Dev nD) (c : Fin 8) (s : Fin 2) : Blk F := addf (F := F) (φ := .bf16) (P d c s) (P (part s d) c s)
/-- and after the second. -/
def sum2 (d : Dev nD) (c : Fin 8) (s : Fin 2) : Blk F := addf (F := F) (φ := .bf16) (sum1 P d c s) (sum1 P (part (s + 1) d) c s)

/-- What round `t` sends. -/
def sent (t : Fin 2) (d : Dev nD) (c : Fin 8) (s : Fin 2) : Blk F := if t = 0 then P d c s else sum1 P d c s

/-- Block `(c, s)` of a buffer of device `d`, holding `w`. -/
abbrev holds (m : Mat) (d : Dev nD) (c : Fin 8) (s : Fin 2) (w : Blk F) : sProp 𝕄 := owns (d : Thread nD τ) (sub m c s) fullShare w
/-- The same at contents not chosen. -/
def anyAt (m : Mat) (d : Dev nD) (c : Fin 8) (s : Fin 2) : sProp 𝕄 := iprop(∃ w : Blk F, holds m d c s w)

instance anyAt_storable (m : Mat) (d : Dev nD) (c : Fin 8) (s : Fin 2) : BI.Storable (upEmb : UEmb _ 𝕄) (anyAt (F := F) m d c s) := by
  unfold anyAt; infer_instance

/-! ## The schedule -/

/-- A landing block of device `e` for round `t`, and that its arrival semaphore is in use. -/
def landing (e : Dev nD) (t : Fin 2) (c : Fin 8) (s : Fin 2) : sProp 𝕄 := iprop(anyAt (dstM t) e c s ∗ reached ER (rcvCell e t c s) 0)

/-- What meeting partner `k` hands a device: the partner's landing blocks for the copies this device sends it. -/
def barPay (k : Fin 2) (d : Dev nD) : sProp 𝕄 :=
  iprop((bigSep Finset.univ fun c : Fin 8 => iprop(landing (part k d) 0 c k ∗ landing (part k d) 1 c (k + 1))) ∗ reached ER (finCell (part k d)) 0)

/-- What a copy leaves at its semaphores: the source block at what was sent, or the landing block at what arrived. -/
def cpPay (u : Fin 2) (d : Dev nD) (t : Fin 2) (c : Fin 8) (s : Fin 2) : sProp 𝕄 :=
  if u = 0 then holds (srcM t) d c s (sent P t d c s) else holds (dstM t) d c s (sent P t (part (s + t) d) c s)

instance landing_storable (e : Dev nD) (t : Fin 2) (c : Fin 8) (s : Fin 2) : BI.Storable (upEmb : UEmb _ 𝕄) (landing (F := F) e t c s) := by
  unfold landing; infer_instance
instance barPay_storable (k : Fin 2) (d : Dev nD) : BI.Storable (upEmb : UEmb _ 𝕄) (barPay (F := F) k d) := by
  unfold barPay; infer_instance
instance cpPay_storable (u : Fin 2) (d : Dev nD) (t : Fin 2) (c : Fin 8) (s : Fin 2) : BI.Storable (upEmb : UEmb _ 𝕄) (cpPay P u d t c s) := by
  unfold cpPay; split <;> infer_instance

/-- One round a cell: two units at a meeting, a block at a copy. -/
def rd : Rounds.Schedule (GSem nD τ sig) (Fin 2) 𝕄 where
  duties g r := if r = 0 ∧ g.1.2 = .tc then (match g.2 with | .dma q => if 6 ≤ q.val then {0} else ∅ | .reg _ => Finset.univ) else ∅
  unitless _ := False
  amount g _ _ := match g.2 with | .dma _ => N | .reg _ => 1
  payload g _ k := match g.2 with
    | .dma q => cpPay P (codeU q.val) g.1.1 (codeT q.val) (codeC q.val) (codeS q.val)
    | .reg s => if s = barS then barPay k g.1.1 else iprop(emp)
  amount_pos g _ _ _ := by
    match g.2 with
    | .dma _ => exact N_pos
    | .reg _ => exact Nat.one_pos

instance rd_payload_storable (g : GSem nD τ sig) (r : ℕ) (k : Fin 2) : BI.Storable (upEmb : UEmb _ 𝕄) ((rd P).payload g r k) := by
  obtain ⟨x, sm⟩ := g
  cases sm with
  | dma q => show BI.Storable upEmb (cpPay P _ _ _ _ _); infer_instance
  | reg s => show BI.Storable upEmb (if s = barS then barPay k x.1 else iprop(emp)); split <;> infer_instance

section Sched
variable (d : Dev nD) (u t : Fin 2) (c : Fin 8) (s : Fin 2) (k : Fin 2)

theorem fin_ne_bar : finS ≠ barS := by decide

theorem duties_bar : (rd P).duties (barCell d) 0 = Finset.univ := by dsimp only [rd]; exact if_pos ⟨rfl, rfl⟩
theorem duties_fin : (rd P).duties (finCell d) 0 = Finset.univ := by dsimp only [rd]; exact if_pos ⟨rfl, rfl⟩
theorem duties_cp : (rd P).duties (cpCell u d t c s) 0 = {0} := by
  dsimp only [rd]; rw [if_pos ⟨rfl, rfl⟩]; exact if_pos (Nat.le_add_right _ _)
theorem duties_later (g : GSem nD τ sig) : ∀ r, 1 ≤ r → (rd P).duties g r = ∅ :=
  fun r hr => by dsimp only [rd]; exact if_neg fun h => by omega

theorem amount_bar : (rd P).amount (barCell d) 0 k = 1 := rfl
theorem amount_fin : (rd P).amount (finCell d) 0 k = 1 := rfl
theorem amount_cp : (rd P).amount (cpCell u d t c s) 0 k = N := rfl

theorem expect_bar : (rd P).expect (barCell d) 0 = 2 := by
  unfold Schedule.expect Schedule.amountOf; rw [duties_bar]; rfl
theorem expect_fin : (rd P).expect (finCell d) 0 = 2 := by
  unfold Schedule.expect Schedule.amountOf; rw [duties_fin]; rfl
theorem expect_cp : (rd P).expect (cpCell u d t c s) 0 = N := by
  unfold Schedule.expect Schedule.amountOf; rw [duties_cp, Finset.sum_singleton, amount_cp]

theorem payload_bar : (rd P).payload (barCell d) 0 k = barPay k d := by dsimp only [rd]; exact if_pos rfl
theorem payload_fin : (rd P).payload (finCell d) 0 k = iprop(emp) := by dsimp only [rd]; exact if_neg fin_ne_bar
theorem payload_cp : (rd P).payload (cpCell u d t c s) 0 k = cpPay P u d t c s := by
  obtain ⟨h₁, h₂, h₃, h₄⟩ := code_at u t c s
  show cpPay P (codeU (dmaAt u t c s).val) d (codeT (dmaAt u t c s).val) (codeC (dmaAt u t c s).val) (codeS (dmaAt u t c s).val) = _
  rw [h₁, h₂, h₃, h₄]

theorem rest_bar : bigSep ((rd P).duties (barCell d) 0 \ ∅) (fun k => (rd P).payload (barCell d) 0 k) = iprop(barPay 0 d ∗ barPay 1 d) := by
  rw [Finset.sdiff_empty, duties_bar, bigSep_univ_two, payload_bar, payload_bar]
theorem rest_cp : bigSep ((rd P).duties (cpCell u d t c s) 0 \ ∅) (fun k => (rd P).payload (cpCell u d t c s) 0 k) = cpPay P u d t c s := by
  rw [Finset.sdiff_empty, duties_cp, bigSep_singleton, payload_cp]

end Sched

/-! ## Levels and what is owed -/

def L (g : GSem nD τ sig) : Finset Unit := if g.1.2 = .tc then {()} else ∅

/-- The program waits for arrivals in the order of these numbers. -/
def order (t : Fin 2) (c : Fin 8) (s : Fin 2) : ℕ := 4 * (c.val + 2 * t.val) + 2 * t.val + s.val + 2

/-- Departures lie lowest, then the first meeting, then the arrivals in order, then the last meeting. -/
def lv (g : GSem nD τ sig) (_ : Unit) : ℕ := match g.2 with
  | .dma q => if q.val < 38 then 0 else order (codeT q.val) (codeC q.val) (codeS q.val)
  | .reg s => if s = barS then 1 else 1000

theorem L_of_ne (g : GSem nD τ sig) (h : g.1.2 ≠ .tc) : L g = ∅ := if_neg h
theorem L_tc (d : Dev nD) (sm : SemLoc sig) : L ((d : Thread nD τ), sm) = {()} := if_pos rfl

theorem lv_bar (d : Dev nD) : lv (barCell d) () = 1 := by dsimp only [lv]; exact if_pos rfl
theorem lv_fin (d : Dev nD) : lv (finCell d) () = 1000 := by dsimp only [lv]; exact if_neg fin_ne_bar
theorem lv_snd (d : Dev nD) (t : Fin 2) (c : Fin 8) (s : Fin 2) : lv (sndCell d t c s) () = 0 := by
  dsimp only [lv, sndCell, cpCell, dmaAt]; refine if_pos ?_
  have := t.isLt; have := c.isLt; have := s.isLt
  show 6 + (32 * 0 + _) < 38
  omega
theorem lv_rcv (d : Dev nD) (t : Fin 2) (c : Fin 8) (s : Fin 2) : lv (rcvCell d t c s) () = order t c s := by
  obtain ⟨h₁, h₂, h₃, h₄⟩ := code_at 1 t c s
  show (if (dmaAt 1 t c s).val < 38 then 0 else order (codeT (dmaAt 1 t c s).val) (codeC (dmaAt 1 t c s).val) (codeS (dmaAt 1 t c s).val)) = _
  rw [h₂, h₃, h₄, if_neg]
  show ¬ 6 + (32 * 1 + _) < 38
  omega

/-- Everything owed lies above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {A B : CellTallies nD τ sig Unit} (hA : Above n A) (hB : Above n B) : Above n (A + B) := fun g u h => by
  rw [Pi.add_apply, Finsupp.add_apply] at h
  rcases Nat.add_pos_iff_pos_or_pos.mp h with h | h
  · exact hA g u h
  · exact hB g u h
theorem Above.tally {n k : ℕ} {d : Dev nD} {sm : SemLoc sig} (h : n < lv ((d : Thread nD τ), sm) ()) : Above n (tallyAt ((d : Thread nD τ), sm) () k) := fun g u hg => by
  rw [tallyAt_apply] at hg
  split at hg
  · next h' => obtain ⟨rfl, rfl⟩ := h'; exact ⟨rfl, h⟩
  · exact absurd hg (Nat.lt_irrefl 0)
theorem Above.sum {n : ℕ} {ι : Type} (S : Finset ι) (f : ι → CellTallies nD τ sig Unit) (h : ∀ i ∈ S, Above n (f i)) : Above n (∑ i ∈ S, f i) := by
  classical
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))
theorem Above.mono {n k : ℕ} {O : CellTallies nD τ sig Unit} (h : Above n O) (hk : k ≤ n) : Above k O :=
  fun g u hg => ⟨(h g u hg).1, lt_of_le_of_lt hk (h g u hg).2⟩

/-- A device may wait at a cell that lies below all it owes. -/
theorem mayWait_of (d : Dev nD) (sm : SemLoc sig) (O : CellTallies nD τ sig Unit) (h : Above (lv ((d : Thread nD τ), sm) ()) O) :
    (levAts L lv : sProp 𝕄) ⊢ MayWait (d : Thread nD τ) sm () O :=
  MayOwe.of_cut (L := L) (lev := lv) (lv ((d : Thread nD τ), sm) ())
    (fun p hp => by rw [Finset.mem_singleton.mp hp, L_tc]; exact Finset.mem_singleton_self _)
    (fun g u hg => by
      have h₁ := (h g u hg).1
      unfold L; rw [if_pos h₁]; exact Finset.mem_singleton_self _)
    (fun p hp => by rw [Finset.mem_singleton.mp hp])
    (fun g u hg => (h g u hg).2)

/-- The two arrivals, at its partners, of what a device sends for chunk `c` in round `t`. -/
def due (d : Dev nD) (t : Fin 2) (c : Fin 8) : CellTallies nD τ sig Unit :=
  tallyAt (rcvCell (part (0 + t) d) t c 0) () N + tallyAt (rcvCell (part (1 + t) d) t c 1) () N
/-- The copies of round `t` from chunk `n` on. -/
def dueFrom (d : Dev nD) (t : Fin 2) (n : ℕ) : CellTallies nD τ sig Unit := ∑ c : Fin 8, if n ≤ c.val then due d t c else 0
/-- A meeting at the partners' semaphores. -/
def dueBar (d : Dev nD) : CellTallies nD τ sig Unit := tallyAt (barCell (part 0 d)) () 1 + tallyAt (barCell (part 1 d)) () 1
def dueFin (d : Dev nD) : CellTallies nD τ sig Unit := tallyAt (finCell (part 0 d)) () 1 + tallyAt (finCell (part 1 d)) () 1

/-- What remains owed once the first meeting is over, `n` chunks are sent in the first round and `n'` in the second. -/
def owing (d : Dev nD) (n n' : ℕ) : CellTallies nD τ sig Unit := dueFin d + dueFrom d 0 n + dueFrom d 1 n'
/-- What a device owes at launch. -/
def O₀ (d : Dev nD) : CellTallies nD τ sig Unit := owing d 0 0 + dueBar d

theorem dueFrom_succ (d : Dev nD) (t : Fin 2) (c : Fin 8) : dueFrom d t c.val = dueFrom d t (c.val + 1) + due d t c := by
  unfold dueFrom
  rw [← Finset.add_sum_erase _ _ (Finset.mem_univ c), ← Finset.add_sum_erase (s := Finset.univ) (f := fun c' : Fin 8 => if c.val + 1 ≤ c'.val then due d t c' else 0) (Finset.mem_univ c)]
  rw [if_pos (le_refl _), if_neg (by omega), zero_add, add_comm]
  congr 1
  refine Finset.sum_congr rfl fun c' hc' => ?_
  have hne : c'.val ≠ c.val := fun h => Finset.ne_of_mem_erase hc' (Fin.ext h)
  by_cases h : c.val ≤ c'.val
  · rw [if_pos h, if_pos (by omega)]
  · rw [if_neg h, if_neg (by omega)]
theorem dueFrom_all (d : Dev nD) (t : Fin 2) : dueFrom d t 8 = 0 :=
  Finset.sum_eq_zero fun c _ => if_neg (by have := c.isLt; omega)

theorem above_due {n : ℕ} (d : Dev nD) (t : Fin 2) (c : Fin 8) (h : n < order t c 0) : Above n (due d t c) :=
  (Above.tally (by rw [lv_rcv]; exact h)).add (Above.tally (by
    rw [lv_rcv]; refine lt_of_lt_of_le h ?_
    unfold order
    show _ + 0 + 2 ≤ _ + 1 + 2
    omega))
theorem above_dueFrom {n : ℕ} (d : Dev nD) (t : Fin 2) (k : ℕ) (h : ∀ c : Fin 8, k ≤ c.val → n < order t c 0) : Above n (dueFrom d t k) :=
  Above.sum _ _ fun c _ => by
    split
    · next hc => exact above_due d t c (h c hc)
    · exact Above.zero n
theorem above_dueFin {n : ℕ} (d : Dev nD) (h : n < 1000) : Above n (dueFin d) :=
  (Above.tally (by rw [lv_fin]; exact h)).add (Above.tally (by rw [lv_fin]; exact h))
theorem above_dueBar (d : Dev nD) : Above 0 (dueBar d) :=
  (Above.tally (by rw [lv_bar]; decide)).add (Above.tally (by rw [lv_bar]; decide))

/-- Everything owed after the first meeting lies above it. -/
theorem above_owing (d : Dev nD) (n n' : ℕ) : Above 1 (owing d n n') :=
  ((above_dueFin d (by decide)).add (above_dueFrom d 0 n fun c _ => by unfold order; omega)).add (above_dueFrom d 1 n' fun c _ => by unfold order; omega)
theorem above_O₀ (d : Dev nD) : Above 0 (O₀ d) := ((above_owing d 0 0).mono (by decide)).add (above_dueBar d)

/-! ## Ghost state -/

/-- The cells of one device, the first meeting's aside. -/
abbrev Own : Type := (Fin 2 × Fin 2 × Fin 8 × Fin 2) ⊕ Unit
/-- All of them. -/
abbrev Cell : Type := Own ⊕ Unit

def osem : Own → SemLoc sig
  | .inl (u, t, c, s) => .dma (dmaAt u t c s)
  | .inr () => .reg finS
def semOf : Cell → SemLoc sig
  | .inl k => osem k
  | .inr () => .reg barS
abbrev cellAt (d : Dev nD) (k : Cell) : GSem nD τ sig := ((d : Thread nD τ), semOf k)

/-- Every cell of every device keeps the schedule. -/
def invs (K : GSem nD τ sig → ℕ) : sProp 𝕄 := bigSep Finset.univ fun dk : Dev nD × Cell => cellInv ER (rd P) (K (cellAt dk.1 dk.2)) (cellAt dk.1 dk.2)

instance invs_persistent (K : GSem nD τ sig → ℕ) : BI.Persistent (invs P K) := by unfold invs; infer_instance

theorem invs_at (K : GSem nD τ sig → ℕ) (d : Dev nD) (k : Cell) : invs P K ⊢ cellInv ER (rd P) (K (cellAt d k)) (cellAt d k) := by
  classical
  exact bigSep_elim (Finset.mem_univ (d, k)) (Φ := fun dk : Dev nD × Cell => cellInv ER (rd P) (K (cellAt dk.1 dk.2)) (cellAt dk.1 dk.2))

end Cert.KernelIdeal.Butterfly

end
-- ==== Proof.Ops.lean ====
/- What each operation of the kernel does to the blocks a device holds. -/
module

public import proofs.«01_k».proof.Proof.Protocol
public import Idealize.ShloMosaic.Lib.Pointwise.Reshape

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev 𝒱₀ : Variants := Variants.none

variable (P : Dev nD → Fin 8 → Fin 2 → Blk F) (K : GSem nD τ sig → ℕ) (d : Dev nD)

/-- What every device may use at any time. -/
def always : sProp 𝕄 := iprop(invs P K ∗ levAts L lv)

instance always_persistent : BI.Persistent (always P K) := by unfold always; infer_instance

/-- What device `d` owes, whatever it has waited for. -/
def owe (O : CellTallies nD τ sig Unit) : sProp 𝕄 := iprop(∃ W : Waits sig Unit, owes (d : Thread nD τ) O W)

/-- The weakest precondition of a program of device `d`. -/
abbrev runs {α : Type} (p : KProg F α) (Q : α → sProp 𝕄) : sProp 𝕄 := wp frame (wpE (defs₀ (F := F)) 𝒱₀ (d : Thread nD τ) none) Set.univ p Q

/-! ## Triples -/

/-- From `A`, with what may always be used, the program ends in `B`. -/
def Tr {α : Type} (A : sProp 𝕄) (p : KProg F α) (B : α → sProp 𝕄) : Prop := iprop(always P K ∗ A) ⊢ runs d p B

variable {P K d}

theorem Tr.bind {α β : Type} {A : sProp 𝕄} {p : KProg F α} {B : α → sProp 𝕄} {k : α → KProg F β} {C : β → sProp 𝕄}
    (hp : Tr P K d A p B) (hk : ∀ x, Tr P K d (B x) (k x) C) : Tr P K d A (p >>= k) C := by
  unfold Tr at *
  unfold runs
  rw [wp_bind]
  refine BIBase.Entails.trans ?_ (wp_mono frame (wpE (defs₀ (F := F)) 𝒱₀ (d : Thread nD τ) none) Set.univ hk)
  refine BIBase.Entails.trans ?_ (wp_frame_l frame (wpE (defs₀ (F := F)) 𝒱₀ (d : Thread nD τ) none) Set.univ)
  iintro ⟨#H, HA⟩
  isplitr; · iexact H
  iapply hp
  isplitr; · iexact H
  iexact HA

theorem Tr.sep {α : Type} {A : sProp 𝕄} {p : KProg F α} {B : α → sProp 𝕄} (R : sProp 𝕄) (hp : Tr P K d A p B) :
    Tr P K d iprop(A ∗ R) p (fun x => iprop(B x ∗ R)) := by
  unfold Tr at *
  refine BIBase.Entails.trans ?_ (wp_frame_r frame (wpE (defs₀ (F := F)) 𝒱₀ (d : Thread nD τ) none) Set.univ)
  iintro ⟨H, HA, HR⟩
  isplitl [H HA]
  · iapply hp
    isplitl [H] <;> iassumption
  iexact HR

theorem Tr.conseq {α : Type} {A A' : sProp 𝕄} {p : KProg F α} {B B' : α → sProp 𝕄} (hp : Tr P K d A p B) (hA : A' ⊢ A) (hB : ∀ x, B x ⊢ B' x) :
    Tr P K d A' p B' := by
  unfold Tr at *
  exact ((sep_mono_right hA).trans hp).trans (wp_mono frame (wpE (defs₀ (F := F)) 𝒱₀ (d : Thread nD τ) none) Set.univ hB)

theorem Tr.pre {α : Type} {A A' : sProp 𝕄} {p : KProg F α} {B : α → sProp 𝕄} (hA : A' ⊢ A) (hp : Tr P K d A p B) : Tr P K d A' p B :=
  hp.conseq hA fun _ => .rfl

theorem Tr.ret {α : Type} {A : sProp 𝕄} {x : α} {B : α → sProp 𝕄} (h : A ⊢ B x) : Tr P K d A (Prog.ret x) B := by
  unfold Tr runs
  rw [wp_ret]
  iintro ⟨-, HA⟩
  imodintro
  iapply h; iexact HA

variable (P K d)

theorem wp_done {α : Type} {x : α} {Q : α → sProp 𝕄} : Q x ⊢ runs d (Prog.ret x) Q := by
  unfold runs
  rw [wp_ret]
  iintro H; imodintro; iexact H

/-! ## Blocks -/

/-- Reading a block held. -/
theorem read_rule (m : Mat) (c : Fin 8) (s : Fin 2) (w : Blk F) {α : Type} {hl : m.view.LoadsAt (blk c s).toLoadRect}
    {k : Vec F S128x512 .bf16 → KProg F α} {Q : α → sProp 𝕄} :
    holds m d c s w ⊢ iprop((holds m d c s w -∗ runs d (k w) Q) -∗ runs d (.op (.load m (blk c s).toLoadRect hl) k) Q) := by
  unfold holds owns
  iintro ⟨%f, %hf, Hm⟩ Hk
  iapply (wp_load_rect 𝒱₀ (d : Thread nD τ) none Set.univ (m := m) (r := blk c s) (hl := hl) (S := (sub m c s).view.set) (q := fullShare) (f := f)
    (Finset.Subset.refl _)) $$ Hm
  iintro Hm
  rw [show (m.access (blk c s)).read (Elt F) f = w from hf]
  iapply Hk
  iexists f
  isplitr; · ipureintro; exact hf
  iexact Hm

/-- Reading a block at contents not chosen. -/
theorem read_any (m : Mat) (c : Fin 8) (s : Fin 2) {α : Type} {hl : m.view.LoadsAt (blk c s).toLoadRect}
    {k : Vec F S128x512 .bf16 → KProg F α} {Q : α → sProp 𝕄} :
    anyAt m d c s ⊢ iprop((∀ w, anyAt m d c s -∗ runs d (k w) Q) -∗ runs d (.op (.load m (blk c s).toLoadRect hl) k) Q) := by
  unfold anyAt
  iintro ⟨%w, Hm⟩ Hk
  iapply (read_rule d m c s w) $$ Hm
  iintro Hm
  iapply Hk
  iexists w; iexact Hm

/-- Writing a block held. -/
theorem write_rule (m : Mat) (c : Fin 8) (s : Fin 2) (w : Blk F) {α : Type} {hx : (m.access (blk c s)).Stores Finset.univ}
    {hm : (Finset.univ : Finset (blk c s).shape.Idx) = Finset.univ ∨ ∀ a, (blk c s).stride a = 1} {k : PUnit → KProg F α} {Q : α → sProp 𝕄} :
    anyAt m d c s ⊢ iprop((holds m d c s w -∗ runs d (k ⟨⟩) Q) -∗ runs d (.op (.store m (blk c s) w Finset.univ hx hm) k) Q) := by
  unfold anyAt holds owns
  iintro ⟨%w₀, %f, -, Hm⟩ Hk
  iapply (wp_store 𝒱₀ (d : Thread nD τ) none Set.univ (m := m) (r := blk c s) (w := w) (Mk := Finset.univ) (hx := hx) (hm := hm)
    (S := (sub m c s).view.set) (f := f) (Finset.Subset.refl _)) $$ Hm
  iintro Hm
  iapply Hk
  iexists (m.access (blk c s)).write (Elt F) f w Finset.univ
  isplitr; · ipureintro; exact View.read_write_univ _ _
  iexact Hm

/-! ## Copies -/

/-- What a device needs to send block `(c, s)` in round `t`, beside the blocks. -/
def toks (t : Fin 2) (c : Fin 8) (s : Fin 2) : sProp 𝕄 :=
  iprop(dutyTok ER (sndCell d t c s) 0 0 ∗ reached ER (sndCell d t c s) 0 ∗ dutyTok ER (rcvCell (part (s + t) d) t c s) 0 0)

theorem send_rule (t : Fin 2) (c : Fin 8) (s : Fin 2) {O O' : CellTallies nD τ sig Unit}
    (hO : O' = O + tallyAt (rcvCell (part (s + t) d) t c s) () N) (e : Dev nD) (he : e = part (s + t) d)
    (q₁ q₂ : DmaSem sig) (h₁ : q₁ = dmaAt 0 t c s) (h₂ : q₂ = dmaAt 1 t c s)
    {hsc : (sub (dstM t) c s).view.ref.isScScratch = false} {hsrc : (sub (srcM t) c s).view.WordExact} {hdst : (sub (dstM t) c s).view.WordExact}
    {hsem : DmaTarget.Typed .vmem (.dma q₂) (.remote (Dev.tc e : Thread nD τ) (sub (dstM t) c s) (.dma q₁) hsc)}
    {α : Type} {k : PUnit → KProg F α} {Q : α → sProp 𝕄} :
    iprop(always P K ∗ holds (srcM t) d c s (sent P t d c s) ∗ landing (part (s + t) d) t c s ∗ toks d t c s ∗ owe d O')
      ⊢ iprop(((cred (tallyAt (sndCell d t c s) () N) ∗ owe d O) -∗ runs d (k ⟨⟩) Q)
          -∗ runs d (.op (.enqueueDma (sub (srcM t) c s) (.remote (Dev.tc e : Thread nD τ) (sub (dstM t) c s) (.dma q₁) hsc) (.dma q₂) hsrc hdst hsem) k) Q) := by
  subst he h₁ h₂
  unfold always landing anyAt holds owns toks owe
  iintro ⟨⟨#HI, #Hlev⟩, ⟨%fs, %hfs, Hsrc⟩, ⟨⟨%w₀, %fd, %hfd, Hdst⟩, #Hr₂⟩, ⟨Ht₁, #Hr₁, Ht₂⟩, ⟨%W, HO⟩⟩ Hk
  ihave HI₁ := (invs_at P K d (.inl (.inl (0, t, c, s)))) $$ HI
  ihave HI₂ := (invs_at P K (part (s + t) d) (.inl (.inl (1, t, c, s)))) $$ HI
  iapply (Rounds.wp_send_pointsTo 𝒱₀ ER (rd P) (d : Thread nD τ) none (c' := (part (s + t) d : Thread nD τ)) (src := sub (srcM t) c s) (dst := sub (dstM t) c s)
      (sS := .dma (dmaAt 0 t c s)) (sem := .dma (dmaAt 1 t c s)) (q := fullShare) (fs := fs)
      (κ₁ := K (cellAt d (.inl (.inl (0, t, c, s))))) (κ₂ := K (cellAt (part (s + t) d) (.inl (.inl (1, t, c, s)))))
      (r₁ := 0) (r₂ := 0) (d₁ := 0) (d₂ := 0) (fd := fd)
      (by rw [duties_cp]; exact Finset.mem_singleton_self _) (by rw [duties_cp]; exact Finset.mem_singleton_self _)
      () () N (amount_dst t c s _) (amount_cp P d 0 t c s 0) (amount_cp P (part (s + t) d) 1 t c s 0) O hO (W := W)
      (by
        rw [payload_cp]; unfold cpPay; rw [if_pos rfl]; unfold holds owns
        iintro H; iexists fs
        isplitr; · ipureintro; exact hfs
        iexact H)
      (by
        rw [payload_cp]; unfold cpPay; rw [if_neg (by decide)]; unfold holds owns
        rw [part_part]
        iintro H; iexists ((sub (dstM t) c s).view.write (Elt F) fd ((sub (srcM t) c s).view.read (Elt F) fs) Finset.univ)
        isplitr; · ipureintro; exact (View.read_write_univ _ _).trans hfs
        iexact H)) $$ [Hsrc Hdst HO Ht₁ Ht₂ HI₁ HI₂]
  · isplitl [HI₁]; · iexact HI₁
    isplitl [HI₂]; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Waiting at one of a copy's two semaphores, below everything owed. -/
theorem wait_rule (u t : Fin 2) (c : Fin 8) (s : Fin 2) {O : CellTallies nD τ sig Unit} (hO : Above (lv (cpCell u d t c s) ()) O)
    (q : DmaSem sig) (hq : q = dmaAt u t c s) (m₁ m₂ : Memref sig .tc .vmem S128x512 .bf16) (hN : m₂.view.dmaCredit = N)
    {h₁ : m₁.view.WordExact} {h₂ : m₂.view.WordExact} {α : Type} {k : PUnit → KProg F α} {Q : α → sProp 𝕄} :
    iprop(always P K ∗ cred (tallyAt (cpCell u d t c s) () N) ∗ atPos ER (cpCell u d t c s) 0 ∅ 0 ∗ owe d O)
      ⊢ iprop(((cpPay P u d t c s ∗ atPos ER (cpCell u d t c s) (0 + 1) ∅ 0 ∗ owe d O) -∗ runs d (k ⟨⟩) Q)
          -∗ runs d (.op (.waitDma2 q m₁ m₂ h₁ h₂) k) Q) := by
  subst hq
  unfold always owe
  iintro ⟨⟨#HI, #Hlev⟩, Hc, Hat, ⟨%W, HO⟩⟩ Hk
  ihave HI₁ := (invs_at P K d (.inl (.inl (u, t, c, s)))) $$ HI
  have hrule := Rounds.wp_wait_rest_token 𝒱₀ ER (rd P) (d : Thread nD τ) none (κ := K (cellAt d (.inl (.inl (u, t, c, s)))))
      (wpE_waitDma2_eq (defs := defs₀ (F := F)) 𝒱₀ (d : Thread nD τ) none Set.univ (sem := dmaAt u t c s) (src := m₁) (dst := m₂) (hsrc := h₁) (hdst := h₂))
      (Set.mem_univ _) (k := k) (Q := Q) () (O := O) (W := W) (R := 0) (m := 0) (T := ∅)
      ((Nat.zero_add _).trans (hN.trans (expect_cp P d u t c s).symm))
  rw [hN, rest_cp] at hrule
  iapply hrule $$ [Hc HO Hat HI₁]
  · isplitl [HI₁]; · iexact HI₁
    isplitl [Hc]; · iexact Hc
    isplitl [HO]; · iexact HO
    isplitr; · iapply (mayWait_of d _ O hO); iexact Hlev
    iexact Hat
  iintro ⟨HO, Hat, -, Hpay⟩
  iapply Hk
  isplitl [Hpay]; · iexact Hpay
  isplitl [Hat]; · iexact Hat
  iexists _; iexact HO

/-! ## The three moves of an item -/

/-- The right to wait for round `t`'s copies of block `(c, s)`. -/
def poss (t : Fin 2) (c : Fin 8) (s : Fin 2) : sProp 𝕄 :=
  iprop(atPos ER (sndCell d t c s) 0 ∅ 0 ∗ atPos ER (rcvCell d t c s) 0 ∅ 0 ∗ cred (tallyAt (rcvCell d t c s) () N))
/-- Both waited for. -/
def past (t : Fin 2) (c : Fin 8) (s : Fin 2) : sProp 𝕄 := iprop(atPos ER (sndCell d t c s) (0 + 1) ∅ 0 ∗ atPos ER (rcvCell d t c s) (0 + 1) ∅ 0)
/-- Before round `t`'s copy. -/
def ready (t : Fin 2) (c : Fin 8) (s : Fin 2) : sProp 𝕄 := iprop(landing (part (s + t) d) t c s ∗ toks d t c s ∗ poss d t c s)
/-- Between sending and waiting. -/
def flying (t : Fin 2) (c : Fin 8) (s : Fin 2) : sProp 𝕄 := iprop(cred (tallyAt (sndCell d t c s) () N) ∗ poss d t c s)

theorem issue_rule (c : Fin 8) (s : Fin 2) {O O' : CellTallies nD τ sig Unit} (hO : O' = O + tallyAt (rcvCell (part (s + 0) d) 0 c s) () N) :
    Tr P K d iprop(holds bufs.p d c s (P d c s) ∗ ready d 0 c s ∗ owe d O') (issue bufs d c s) (fun _ => iprop(flying d 0 c s ∗ owe d O)) := by
  unfold Tr issue send ready flying Prog.lift
  iintro ⟨#HA, Hp, ⟨Hl, Ht, Hp'⟩, HO⟩
  iapply (send_rule P K d 0 c s hO _ rfl _ _ (snd_eq 0 c s) (rcv_eq 0 c s)) $$ [Hp Hl Ht HO]
  · isplitr; · iexact HA
    isplitl [Hp]; · iexact Hp
    isplitl [Hl]; · iexact Hl
    isplitl [Ht] <;> iassumption
  iintro ⟨Hc, HO⟩
  iapply (wp_done d)
  isplitr [HO]
  · isplitl [Hc] <;> iassumption
  iexact HO

theorem sent_zero (d : Dev nD) (c : Fin 8) (s : Fin 2) : sent P 0 d c s = P d c s := if_pos rfl
theorem sent_one (d : Dev nD) (c : Fin 8) (s : Fin 2) : sent P 1 d c s = sum1 P d c s := if_neg (by decide)

theorem pay_snd (t : Fin 2) (c : Fin 8) (s : Fin 2) : cpPay P 0 d t c s = holds (srcM t) d c s (sent P t d c s) := if_pos rfl
theorem pay_rcv (t : Fin 2) (c : Fin 8) (s : Fin 2) : cpPay P 1 d t c s = holds (dstM t) d c s (sent P t (part (s + t) d) c s) := if_neg (by decide)

/-- Waiting for both of round `t`'s copies of a block: the source comes back, and the partner's block is here. -/
theorem await_rule (t : Fin 2) (c : Fin 8) (s : Fin 2) {O : CellTallies nD τ sig Unit} (hO : Above (order t c s) O)
    (q₁ q₂ : DmaSem sig) (h₁ : q₁ = dmaAt 0 t c s) (h₂ : q₂ = dmaAt 1 t c s) (m₁ m₂ : Memref sig .tc .vmem S128x512 .bf16)
    (hN₁ : m₁.view.dmaCredit = N) (hN₂ : m₂.view.dmaCredit = N)
    {w₁ w₁' : m₁.view.WordExact} {w₂ w₂' : m₂.view.WordExact} {α : Type} {k : KProg F α} {Q : α → sProp 𝕄} :
    iprop(always P K ∗ flying d t c s ∗ owe d O)
      ⊢ iprop(((holds (srcM t) d c s (sent P t d c s) ∗ holds (dstM t) d c s (sent P t (part (s + t) d) c s) ∗ past d t c s ∗ owe d O) -∗ runs d k Q)
          -∗ runs d (.op (.waitDma2 q₁ m₁ m₂ w₁ w₂) fun _ => .op (.waitDma2 q₂ m₂ m₁ w₂' w₁') fun _ => k) Q) := by
  unfold flying poss past
  iintro ⟨#HA, ⟨Hc, Ha₁, Ha₂, Hc'⟩, HO⟩ Hk
  iapply (wait_rule P K d 0 t c s (O := O) (hO.mono (by rw [lv_snd]; exact Nat.zero_le _)) q₁ h₁ m₁ m₂ hN₂) $$ [Hc Ha₁ HO]
  · isplitr; · iexact HA
    isplitl [Hc]; · iexact Hc
    isplitl [Ha₁] <;> iassumption
  iintro ⟨Hp, Ha₁, HO⟩
  iapply (wait_rule P K d 1 t c s (O := O) (by rw [lv_rcv]; exact hO) q₂ h₂ m₂ m₁ hN₁) $$ [Hc' Ha₂ HO]
  · isplitr; · iexact HA
    isplitl [Hc']; · iexact Hc'
    isplitl [Ha₂] <;> iassumption
  iintro ⟨Hr, Ha₂, HO⟩
  iapply Hk
  isplitl [Hp]; · iapply (Entails.of_eq (pay_snd P d t c s)); iexact Hp
  isplitl [Hr]; · iapply (Entails.of_eq (pay_rcv P d t c s)); iexact Hr
  isplitl [Ha₁ Ha₂]
  · isplitl [Ha₁] <;> iassumption
  iexact HO

/-- The same for the first round, in the buffers' own names, -/
theorem await_zero (c : Fin 8) (s : Fin 2) {O : CellTallies nD τ sig Unit} (hO : Above (order 0 c s) O)
    {w₁ w₁' : (sub bufs.r₁ c s).view.WordExact} {w₂ w₂' : (sub bufs.p c s).view.WordExact} {α : Type} {k : KProg F α} {Q : α → sProp 𝕄} :
    iprop(always P K ∗ flying d 0 c s ∗ owe d O)
      ⊢ iprop(((holds bufs.p d c s (P d c s) ∗ holds bufs.r₁ d c s (P (part s d) c s) ∗ past d 0 c s ∗ owe d O) -∗ runs d k Q)
          -∗ runs d (.op (.waitDma2 (at_ bufs.snd 0 c s).sem (sub bufs.r₁ c s) (sub bufs.p c s) w₁ w₂) fun _ =>
            .op (.waitDma2 (at_ bufs.rcv 0 c s).sem (sub bufs.p c s) (sub bufs.r₁ c s) w₂' w₁') fun _ => k) Q) := by
  have h := await_rule P K d 0 c s hO _ _ (snd_eq 0 c s) (rcv_eq 0 c s) (sub bufs.r₁ c s) (sub bufs.p c s) rfl rfl (w₁ := w₁) (w₁' := w₁') (w₂ := w₂) (w₂' := w₂') (k := k) (Q := Q)
  rw [sent_zero, sent_zero, add_zero] at h
  exact h
/-- and for the second. -/
theorem await_one (c : Fin 8) (s : Fin 2) {O : CellTallies nD τ sig Unit} (hO : Above (order 1 c s) O)
    {w₁ w₁' : (sub bufs.r₂ c s).view.WordExact} {w₂ w₂' : (sub bufs.a c s).view.WordExact} {α : Type} {k : KProg F α} {Q : α → sProp 𝕄} :
    iprop(always P K ∗ flying d 1 c s ∗ owe d O)
      ⊢ iprop(((holds bufs.a d c s (sum1 P d c s) ∗ holds bufs.r₂ d c s (sum1 P (part (s + 1) d) c s) ∗ past d 1 c s ∗ owe d O) -∗ runs d k Q)
          -∗ runs d (.op (.waitDma2 (at_ bufs.snd 1 c s).sem (sub bufs.r₂ c s) (sub bufs.a c s) w₁ w₂) fun _ =>
            .op (.waitDma2 (at_ bufs.rcv 1 c s).sem (sub bufs.a c s) (sub bufs.r₂ c s) w₂' w₁') fun _ => k) Q) := by
  have h := await_rule P K d 1 c s hO _ _ (snd_eq 1 c s) (rcv_eq 1 c s) (sub bufs.r₂ c s) (sub bufs.a c s) rfl rfl (w₁ := w₁) (w₁' := w₁') (w₂ := w₂) (w₂' := w₂') (k := k) (Q := Q)
  rw [sent_one, sent_one] at h
  exact h

/-- Sending in the second round. -/
theorem send_one (c : Fin 8) (s : Fin 2) {O O' : CellTallies nD τ sig Unit}
    (hO : O' = O + tallyAt (rcvCell (part (s + 1) d) 1 c s) () N)
    {hsc : (sub bufs.r₂ c s).view.ref.isScScratch = false} {hsrc : (sub bufs.a c s).view.WordExact} {hdst : (sub bufs.r₂ c s).view.WordExact}
    {hsem : DmaTarget.Typed .vmem (.dma (at_ bufs.rcv 1 c s).sem) (.remote (Dev.tc (part (s + 1) d) : Thread nD τ) (sub bufs.r₂ c s) (.dma (at_ bufs.snd 1 c s).sem) hsc)}
    {α : Type} {k : PUnit → KProg F α} {Q : α → sProp 𝕄} :
    iprop(always P K ∗ holds bufs.a d c s (sum1 P d c s) ∗ landing (part (s + 1) d) 1 c s ∗ toks d 1 c s ∗ owe d O')
      ⊢ iprop(((cred (tallyAt (sndCell d 1 c s) () N) ∗ owe d O) -∗ runs d (k ⟨⟩) Q)
          -∗ runs d (.op (.enqueueDma (sub bufs.a c s) (.remote (Dev.tc (part (s + 1) d) : Thread nD τ) (sub bufs.r₂ c s) (.dma (at_ bufs.snd 1 c s).sem) hsc)
            (.dma (at_ bufs.rcv 1 c s).sem) hsrc hdst hsem) k) Q) := by
  have h := send_rule P K d 1 c s hO _ rfl _ _ (snd_eq 1 c s) (rcv_eq 1 c s) (hsc := hsc) (hsrc := hsrc) (hdst := hdst) (hsem := hsem) (k := k) (Q := Q)
  rw [sent_one] at h
  exact h

theorem shapeCast_same (w : Blk F) : shapeCast S128x512 w shapeCasts_S128x512_S128x512 = w := shapeCast_id _ _

theorem advance_rule (c : Fin 8) (s : Fin 2) {O O' : CellTallies nD τ sig Unit} (hO : O' = O + tallyAt (rcvCell (part (s + 1) d) 1 c s) () N)
    (hA : Above (order 0 c s) O') :
    Tr P K d iprop(flying d 0 c s ∗ anyAt bufs.a d c s ∗ ready d 1 c s ∗ owe d O') (advance bufs d c s)
      (fun _ => iprop(holds bufs.p d c s (P d c s) ∗ holds bufs.r₁ d c s (P (part s d) c s) ∗ past d 0 c s ∗ flying d 1 c s ∗ owe d O)) := by
  unfold Tr advance await readBlk writeBlk send ready
  simp only [Prog.lift, Prog.bind_op, Prog.bind_ret]
  iintro ⟨#HA, Hf, Ha0, ⟨Hl, Ht, Hp'⟩, HO⟩
  iapply (await_zero P K d c s hA) $$ [Hf HO]
  · isplitr; · iexact HA
    isplitl [Hf] <;> iassumption
  iintro ⟨Hp, Hr, Hpast, HO⟩
  iapply (read_rule d bufs.p c s _) $$ Hp
  iintro Hp
  iapply (read_rule d bufs.r₁ c s _) $$ Hr
  iintro Hr
  iapply (read_any d bufs.a c s) $$ Ha0
  iintro %w Ha0
  iapply (write_rule d bufs.a c s _) $$ Ha0
  iintro Ha
  iapply (send_one P K d c s hO) $$ [Ha Hl Ht HO]
  · isplitr; · iexact HA
    isplitl [Ha]; · iapply (Entails.of_eq (congrArg (holds bufs.a d c s) (shapeCast_same _))); iexact Ha
    isplitl [Hl]; · iexact Hl
    isplitl [Ht] <;> iassumption
  iintro ⟨Hc, HO⟩
  iapply (wp_done d)
  isplitl [Hp]; · iexact Hp
  isplitl [Hr]; · iexact Hr
  isplitl [Hpast]; · iexact Hpast
  isplitl [Hc Hp']
  · unfold flying; isplitl [Hc] <;> iassumption
  iexact HO

theorem drain_rule (c : Fin 8) (s : Fin 2) {O : CellTallies nD τ sig Unit} (hA : Above (order 1 c s) O) :
    Tr P K d iprop(flying d 1 c s ∗ anyAt bufs.out d c s ∗ owe d O) (drain bufs c s)
      (fun _ => iprop(holds bufs.a d c s (sum1 P d c s) ∗ holds bufs.r₂ d c s (sum1 P (part (s + 1) d) c s) ∗ holds bufs.out d c s (sum2 P d c s)
        ∗ past d 1 c s ∗ owe d O)) := by
  unfold Tr drain await readBlk writeBlk
  simp only [Prog.lift, Prog.bind_op, Prog.bind_ret]
  iintro ⟨#HA, Hf, Ho0, HO⟩
  iapply (await_one P K d c s hA) $$ [Hf HO]
  · isplitr; · iexact HA
    isplitl [Hf] <;> iassumption
  iintro ⟨Ha, Hr, Hpast, HO⟩
  iapply (read_rule d bufs.a c s _) $$ Ha
  iintro Ha
  iapply (read_rule d bufs.r₂ c s _) $$ Hr
  iintro Hr
  iapply (read_any d bufs.out c s) $$ Ho0
  iintro %w Ho0
  iapply (write_rule d bufs.out c s _) $$ Ho0
  iintro Ho
  iapply (wp_done d)
  isplitl [Ha]; · iexact Ha
  isplitl [Hr]; · iexact Hr
  isplitl [Ho]; · iexact Ho
  isplitl [Hpast] <;> iassumption

end Cert.KernelIdeal.Butterfly

end
-- ==== Proof.Chunk.lean ====
/- One chunk of rows: what its heads are, read from the keys and values a device holds, and the rows stored. -/
module

public import proofs.«01_k».proof.Proof.Ops

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Values -/

/-- The keys or values of all heads. -/
abbrev KV (F : FTy → Type) [FloatOps F] [Named F] : Type := S8x1024x128.Idx → Elt F .bf16
/-- A whole matrix. -/
abbrev Full (F : FTy → Type) [FloatOps F] [Named F] : Type := S1024x1024.Idx → Elt F .bf16

abbrev runRect (p : Piece) (h : Fin 8) : Rect S8x1024x128 := Rect.unit (s := S8x1024x128) ![h.val, p.c₀, 0] (Sl p.w).size (p.inb h)

/-- The run `p` of head `h`. -/
def runOf (f : KV F) (p : Piece) (h : Fin 8) : FVec F (Sk p.w) .bf16 :=
  shapeCast (Sk p.w) (fun j => f ((runRect p h).emb j)) p.cast

/-- A head over a band of one run, -/
def oneVal (p : Piece) (red : (Sc p.w).Reduces [1] S128) (qk : DotDims.WF S128x128 (Sk p.w) (Sc p.w) [1] [1] [0] [0] [] [])
    (ev : DotDims.WF (Sc p.w) (Sk p.w) S128x128 [1] [0] [0] [1] [] []) (c : Fin 8) (qm : FVec F S1024x1024 .bf16) (fk fv : KV F) (h : Fin 8) :
    FVec F S128x128 .bf16 :=
  headOut ⟨p.w, red, qk, ev⟩ c h qm (biasOf c p) (runOf fk p h) (runOf fv p h)
/-- and over a band of two. -/
def twoVal {W : Band} (R : Pair W) (c : Fin 8) (qm : FVec F S1024x1024 .bf16) (fk fv : KV F) (h : Fin 8) : FVec F S128x128 .bf16 :=
  headOut W c h qm (biasPair c R) (joinRuns R (runOf fk R.p₀ h) (runOf fk R.p₁ h)) (joinRuns R (runOf fv R.p₀ h) (runOf fv R.p₁ h))

/-- The heads of chunk `c`. -/
def headVal (qm : FVec F S1024x1024 .bf16) (fk fv : KV F) : Fin 8 → Fin 8 → FVec F S128x128 .bf16
  | 0 => oneVal piece1024 band1024.red band1024.qk band1024.ev 0 qm fk fv
  | 1 => oneVal piece384 band384.red band384.qk band384.ev 1 qm fk fv
  | 2 => oneVal piece512 band512.red band512.qk band512.ev 2 qm fk fv
  | 3 => oneVal piece640 band640.red band640.qk band640.ev 3 qm fk fv
  | 4 => twoVal (pair512 384 (by decide)) 4 qm fk fv
  | 5 => twoVal (pair512 512 (by decide)) 5 qm fk fv
  | 6 => twoVal (pair512 640 (by decide)) 6 qm fk fv
  | 7 => twoVal pair384 7 qm fk fv

/-- The rows of chunk `c`. -/
def rowsVal (x wq : Full F) (fk fv : KV F) (wo : Full F) (c : Fin 8) : FVec F S128x1024 .bf16 :=
  rowsOf (k0_pay3 wo) (ctxOf (headVal (k0_pay2 x wq) fk fv c))

theorem half_lt (s : Fin 2) (j : S128x512.Idx) : ∀ a, (![0, 512 * s.val] : Fin 2 → ℕ) a + (j a).val < S128x1024.size a := by
  have h₀ : (j 0).val < 128 := (j 0).isLt
  have h₁ : (j 1).val < 512 := (j 1).isLt
  have := s.isLt
  intro a
  fin_cases a
  · show 0 + (j 0).val < 128; omega
  · show 512 * s.val + (j 1).val < 1024; omega

/-- Where a block's entry lies in its rows. -/
def half (s : Fin 2) (j : S128x512.Idx) : S128x1024.Idx := fun a => ⟨(![0, 512 * s.val] : Fin 2 → ℕ) a + (j a).val, half_lt s j a⟩

theorem emb_half (c : Fin 8) (s : Fin 2) (j : S128x512.Idx) : (blk c s).emb j = (row c).emb (half s j) := by
  funext a
  apply Fin.ext
  rw [Rect.emb_apply, Rect.emb_apply]
  fin_cases a
  · show 128 * c.val + 1 * (j 0).val = 128 * c.val + 1 * (0 + (j 0).val); omega
  · show 512 * s.val + 1 * (j 1).val = 0 + 1 * (512 * s.val + (j 1).val); omega

/-- The two blocks of the rows of a chunk, -/
theorem disj_half (c : Fin 8) : Disjoint (blk c 0).set (blk c 1).set := by
  rw [Finset.disjoint_left]
  intro i h₀ h₁
  have h₀ := (Rect.mem_set_unit.mp h₀ 1).2
  have h₁ := (Rect.mem_set_unit.mp h₁ 1).1
  have h₀ : (i 1).val < 512 * 0 + 512 := h₀
  have h₁ : 512 * 1 ≤ (i 1).val := h₁
  omega
/-- and that they are all of them. -/
theorem row_sub (c : Fin 8) : (row c).set ⊆ (blk c 0).set ∪ (blk c 1).set := by
  intro i hi
  have h₀ := Rect.mem_set_unit.mp hi 0
  have h₁ : (i 1).val < 1024 := (i 1).isLt
  have h₀ : 128 * c.val ≤ (i 0).val ∧ (i 0).val < 128 * c.val + 128 := h₀
  rw [Finset.mem_union]
  by_cases h : (i 1).val < 512
  · refine .inl (Rect.mem_set_unit.mpr fun a => ?_)
    fin_cases a
    · exact h₀
    · exact ⟨Nat.zero_le _, show (i 1).val < 512 * 0 + 512 by omega⟩
  · refine .inr (Rect.mem_set_unit.mpr fun a => ?_)
    fin_cases a
    · exact h₀
    · exact ⟨show 512 * 1 ≤ (i 1).val by omega, show (i 1).val < 512 * 1 + 512 by omega⟩

variable (P : Dev nD → Fin 8 → Fin 2 → Blk F) (K : GSem nD τ sig → ℕ) (d : Dev nD)

/-! ## Reading keys and values -/

/-- Reading a rectangle of a buffer held. -/
theorem load_rule {s : Shape} {e : EltTy} {cs : CoreSpace} (m : Memref sig .tc cs s e) (r : Rect s) (f : s.Idx → Elt F e) {α : Type} {hl : m.view.LoadsAt r.toLoadRect}
    {k : (r.shape.Idx → Elt F e) → KProg F α} {Q : α → sProp 𝕄} :
    owns (d : Thread nD τ) m fullShare f
      ⊢ iprop((owns (d : Thread nD τ) m fullShare f -∗ runs d (k fun j => f (r.emb j)) Q) -∗ runs d (.op (.load m r.toLoadRect hl) k) Q) := by
  unfold owns
  iintro ⟨%g, %hg, Hm⟩ Hk
  iapply (wp_load_rect 𝒱₀ (d : Thread nD τ) none Set.univ (m := m) (r := r) (hl := hl) (S := m.view.set) (q := fullShare) (f := g)
    (View.set_slice_subset _ _)) $$ Hm
  iintro Hm
  rw [show (m.access r).read (Elt F) g = fun j => f (r.emb j) from by rw [← hg]; rfl]
  iapply Hk
  iexists g
  isplitr; · ipureintro; exact hg
  iexact Hm

/-- The keys and values of a device. -/
def kvs (fk fv : KV F) : sProp 𝕄 := iprop(owns (d : Thread nD τ) bufs.k fullShare fk ∗ owns (d : Thread nD τ) bufs.v fullShare fv)

/-- A head reads only keys and values, and yields `v`. -/
def Yields (fk fv : KV F) (p : KProg F (FVec F S128x128 .bf16)) (v : FVec F S128x128 .bf16) : Prop :=
  ∀ {α : Type} {k : FVec F S128x128 .bf16 → KProg F α} {Q : α → sProp 𝕄},
    kvs d fk fv ⊢ iprop((kvs d fk fv -∗ runs d (k v) Q) -∗ runs d (p >>= k) Q)

theorem headOne_yields (fk fv : KV F) (p : Piece) (red : (Sc p.w).Reduces [1] S128) (qk : DotDims.WF S128x128 (Sk p.w) (Sc p.w) [1] [1] [0] [0] [] [])
    (ev : DotDims.WF (Sc p.w) (Sk p.w) S128x128 [1] [0] [0] [1] [] []) (c : Fin 8) (qm : FVec F S1024x1024 .bf16) (h : Fin 8) :
    Yields d fk fv (headOne bufs p red qk ev c qm h) (oneVal p red qk ev c qm fk fv h) := by
  intro α k Q
  unfold headOne readRun kvs
  simp only [Prog.lift, Prog.bind_op, Prog.bind_ret, Prog.pure_eq_ret]
  iintro ⟨Hk, Hv⟩ Hc
  iapply (load_rule d bufs.k (runRect p h) fk) $$ Hk
  iintro Hk
  iapply (load_rule d bufs.v (runRect p h) fv) $$ Hv
  iintro Hv
  iapply Hc
  isplitl [Hk] <;> iassumption

theorem headTwo_yields (fk fv : KV F) {W : Band} (R : Pair W) (c : Fin 8) (qm : FVec F S1024x1024 .bf16) (h : Fin 8) :
    Yields d fk fv (headTwo bufs R c qm h) (twoVal R c qm fk fv h) := by
  intro α k Q
  unfold headTwo readRun kvs
  simp only [Prog.lift, Prog.bind_op, Prog.bind_ret, Prog.pure_eq_ret]
  iintro ⟨Hk, Hv⟩ Hc
  iapply (load_rule d bufs.k (runRect R.p₀ h) fk) $$ Hk
  iintro Hk
  iapply (load_rule d bufs.k (runRect R.p₁ h) fk) $$ Hk
  iintro Hk
  iapply (load_rule d bufs.v (runRect R.p₀ h) fv) $$ Hv
  iintro Hv
  iapply (load_rule d bufs.v (runRect R.p₁ h) fv) $$ Hv
  iintro Hv
  iapply Hc
  isplitl [Hk] <;> iassumption

theorem headAt_yields (fk fv : KV F) (qm : FVec F S1024x1024 .bf16) (c h : Fin 8) :
    Yields d fk fv (headAt bufs qm c h) (headVal qm fk fv c h) := by
  fin_cases c
  · exact headOne_yields d fk fv _ _ _ _ _ qm h
  · exact headOne_yields d fk fv _ _ _ _ _ qm h
  · exact headOne_yields d fk fv _ _ _ _ _ qm h
  · exact headOne_yields d fk fv _ _ _ _ _ qm h
  · exact headTwo_yields d fk fv _ _ qm h
  · exact headTwo_yields d fk fv _ _ qm h
  · exact headTwo_yields d fk fv _ _ qm h
  · exact headTwo_yields d fk fv _ _ qm h

/-! ## Storing the rows -/

/-- Reading and then storing a chunk's rows, held as two blocks. -/
theorem store_row (m : Mat) (c : Fin 8) (w : FVec F S128x1024 .bf16) {α : Type} {hl : m.view.LoadsAt (row c).toLoadRect}
    {hx : (m.access (row c)).Stores Finset.univ} {hm : (Finset.univ : Finset (row c).shape.Idx) = Finset.univ ∨ ∀ a, (row c).stride a = 1}
    {k : PUnit → KProg F α} {Q : α → sProp 𝕄} :
    iprop(anyAt m d c 0 ∗ anyAt m d c 1)
      ⊢ iprop(((holds m d c 0 (fun j => w (half 0 j)) ∗ holds m d c 1 (fun j => w (half 1 j))) -∗ runs d (k ⟨⟩) Q)
          -∗ runs d (.op (.load m (row c).toLoadRect hl) fun _ => .op (.store m (row c) w Finset.univ hx hm) k) Q) := by
  have hset (r : Rect S1024x1024) : (m.access r).set = r.set.map m.view.emb := View.set_slice _ r
  have hd : Disjoint (sub m c 0).view.set (sub m c 1).view.set := by
    show Disjoint (m.access (blk c 0)).set (m.access (blk c 1)).set
    rw [hset, hset]; exact (Finset.disjoint_map _).mpr (disj_half c)
  have hs : (m.access (row c)).set ⊆ (sub m c 0).view.set ∪ (sub m c 1).view.set := by
    show (m.access (row c)).set ⊆ (m.access (blk c 0)).set ∪ (m.access (blk c 1)).set
    rw [hset, hset, hset, ← Finset.map_union]; exact Finset.map_subset_map.mpr (row_sub c)
  have hw (f : Buf (Elt F) (m.view.loc (d : Thread nD τ))) (s : Fin 2) :
      (fun j => m.view.read (Elt F) ((m.access (row c)).write (Elt F) f w Finset.univ) ((blk c s).emb j)) = fun j => w (half s j) := by
    funext j
    rw [emb_half]
    exact congrFun (View.read_write_univ (v := m.access (row c)) f w) (half s j)
  have hsplit (g : Buf (Elt F) (m.view.loc (d : Thread nD τ))) (hg : ∀ s : Fin 2, (fun j => m.view.read (Elt F) g ((blk c s).emb j)) = fun j => w (half s j)) :
      (m.view.loc (d : Thread nD τ) ↦[(sub m c 0).view.set ∪ (sub m c 1).view.set]{fullShare} g : sProp 𝕄)
        ⊢ iprop(holds m d c 0 (fun j => w (half 0 j)) ∗ holds m d c 1 (fun j => w (half 1 j))) := by
    refine BIBase.Entails.trans (pointsTo_union (ℓ := m.view.loc (d : Thread nD τ)) hd).1 ?_
    unfold holds owns
    iintro ⟨H₀, H₁⟩
    isplitl [H₀]
    · iexists g
      isplitr; · ipureintro; exact hg 0
      iexact H₀
    · iexists g
      isplitr; · ipureintro; exact hg 1
      iexact H₁
  unfold anyAt
  iintro ⟨⟨%w₀, H₀⟩, ⟨%w₁, H₁⟩⟩ Hk
  unfold holds owns
  icases H₀ with ⟨%f₀, -, H₀⟩
  icases H₁ with ⟨%f₁, -, H₁⟩
  ihave H := (pointsTo_join (ℓ := m.view.loc (d : Thread nD τ)) hd) $$ [H₀ H₁]
  · isplitl [H₀] <;> iassumption
  iapply (wp_load_rect 𝒱₀ (d : Thread nD τ) none Set.univ (m := m) (r := row c) (hl := hl) hs) $$ H
  iintro H
  iapply (wp_store 𝒱₀ (d : Thread nD τ) none Set.univ (m := m) (r := row c) (w := w) (Mk := Finset.univ) (hx := hx) (hm := hm) hs) $$ H
  iintro H
  iapply Hk
  iapply (hsplit _ (hw _)) $$ H

/-- A chunk: its rows stored, from the keys and values. -/
theorem chunk_rule (fk fv : KV F) (x wq wo : Full F) (c : Fin 8) :
    Tr P K d iprop(kvs d fk fv ∗ anyAt bufs.p d c 0 ∗ anyAt bufs.p d c 1) (chunk bufs (k0_pay3 wo) c (headAt bufs (k0_pay2 x wq) c))
      (fun _ => iprop(kvs d fk fv ∗ holds bufs.p d c 0 (fun j => rowsVal x wq fk fv wo c (half 0 j)) ∗ holds bufs.p d c 1 (fun j => rowsVal x wq fk fv wo c (half 1 j)))) := by
  unfold Tr chunk
  iintro ⟨-, Hkv, Hp⟩
  iapply (headAt_yields d fk fv (k0_pay2 x wq) c 0) $$ Hkv
  iintro Hkv
  iapply (headAt_yields d fk fv (k0_pay2 x wq) c 1) $$ Hkv
  iintro Hkv
  iapply (headAt_yields d fk fv (k0_pay2 x wq) c 2) $$ Hkv
  iintro Hkv
  iapply (headAt_yields d fk fv (k0_pay2 x wq) c 3) $$ Hkv
  iintro Hkv
  iapply (headAt_yields d fk fv (k0_pay2 x wq) c 4) $$ Hkv
  iintro Hkv
  iapply (headAt_yields d fk fv (k0_pay2 x wq) c 5) $$ Hkv
  iintro Hkv
  iapply (headAt_yields d fk fv (k0_pay2 x wq) c 6) $$ Hkv
  iintro Hkv
  iapply (headAt_yields d fk fv (k0_pay2 x wq) c 7) $$ Hkv
  iintro Hkv
  simp only [Prog.lift, Prog.bind_op, Prog.bind_ret]
  iapply (store_row d bufs.p c (rowsVal x wq fk fv wo c)) $$ Hp
  iintro Hp
  iapply (wp_done d)
  isplitl [Hkv] <;> iassumption

end Cert.KernelIdeal.Butterfly

end
-- ==== Proof.Body.lean ====
/- The whole kernel of a device: the meeting of partners, the chunks in their order, and the meeting at the end. -/
module

public import proofs.«01_k».proof.Proof.Chunk

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- What the kernel of one device reads. -/
structure Ins (F : FTy → Type) [FloatOps F] [Named F] where
  x : Full F
  wq : Full F
  k : KV F
  v : KV F
  wo : Full F

/-- The block device `d` computes. -/
def val (A : Dev nD → Ins F) (d : Dev nD) (c : Fin 8) (s : Fin 2) : Blk F :=
  fun j => rowsVal (A d).x (A d).wq (A d).k (A d).v (A d).wo c (half s j)

variable (A : Dev nD → Ins F) (P : Dev nD → Fin 8 → Fin 2 → Blk F) (K : GSem nD τ sig → ℕ) (d : Dev nD)

/-! ## A meeting -/

/-- What a device needs for a meeting at semaphore `S`, beside what it hands over. -/
def meeting (S : Sem sig) : sProp 𝕄 :=
  iprop(dutyTok ER ((part 0 d : Thread nD τ), .reg S) 0 0 ∗ dutyTok ER ((part 1 d : Thread nD τ), .reg S) 0 1
    ∗ cred (tallyAt ((d : Thread nD τ), .reg S) () 2) ∗ atPos ER ((d : Thread nD τ), .reg S) 0 ∅ 0)

theorem meet_rule (S : Sem sig) (i : Cell) (hi : semOf i = .reg S) (hd : ∀ e : Dev nD, (rd P).duties ((e : Thread nD τ), .reg S) 0 = Finset.univ)
    (hx : (rd P).expect ((d : Thread nD τ), .reg S) 0 = 2) {O O' : CellTallies nD τ sig Unit}
    (hO : O' = O + (tallyAt ((part 0 d : Thread nD τ), .reg S) () 1 + tallyAt ((part 1 d : Thread nD τ), .reg S) () 1))
    (hA : Above (lv ((d : Thread nD τ), .reg S) ()) O) :
    Tr P K d iprop(meeting d S
        ∗ (rd P).payload ((part 0 d : Thread nD τ), .reg S) 0 0 ∗ (rd P).payload ((part 1 d : Thread nD τ), .reg S) 0 1
        ∗ reached ER ((part 0 d : Thread nD τ), .reg S) 0 ∗ reached ER ((part 1 d : Thread nD τ), .reg S) 0 ∗ owe d O')
      (meet d S)
      (fun _ => iprop((rd P).payload ((d : Thread nD τ), .reg S) 0 0 ∗ (rd P).payload ((d : Thread nD τ), .reg S) 0 1
        ∗ atPos ER ((d : Thread nD τ), .reg S) (0 + 1) ∅ 0 ∗ owe d O)) := by
  have hc (e : Dev nD) : always P K ⊢ cellInv ER (rd P) (K (cellAt e i)) ((e : Thread nD τ), .reg S) := by
    refine BIBase.Entails.trans ?_ (show invs P K ⊢ cellInv ER (rd P) (K (cellAt e i)) ((e : Thread nD τ), .reg S) from hi ▸ invs_at P K e i)
    unfold always; iintro ⟨H, -⟩; iexact H
  have hrest : bigSep ((rd P).duties ((d : Thread nD τ), .reg S) 0 \ ∅) (fun k => (rd P).payload ((d : Thread nD τ), .reg S) 0 k)
      = iprop((rd P).payload ((d : Thread nD τ), .reg S) 0 0 ∗ (rd P).payload ((d : Thread nD τ), .reg S) 0 1) := by
    rw [Finset.sdiff_empty, hd, bigSep_univ_two]
  have hrule := fun (k : PUnit → KProg F PUnit) (Q : PUnit → sProp 𝕄) (W : Waits sig Unit) => Rounds.wp_wait_rest_token 𝒱₀ ER (rd P) (d : Thread nD τ) none (κ := K (cellAt d i))
      (wpE_semWait_eq (defs := defs₀ (F := F)) 𝒱₀ (d : Thread nD τ) none Set.univ (sem := S) (k := 2)) (Set.mem_univ _) (k := k) (Q := Q) () (O := O) (W := W) (R := 0) (m := 0) (T := ∅)
      ((Nat.zero_add 2).trans hx.symm)
  rw [hrest] at hrule
  unfold Tr meet semSignalWord semWaitWord meeting owe
  simp only [Prog.lift, Prog.bind_op, Prog.bind_ret]
  iintro ⟨#HA, ⟨Ht₀, Ht₁, Hc, Hat⟩, Hp₀, Hp₁, #Hr₀, #Hr₁, ⟨%W, HO⟩⟩
  ihave HI := (hc d) $$ HA
  ihave HI₀ := (hc (part 0 d)) $$ HA
  ihave HI₁ := (hc (part 1 d)) $$ HA
  iapply (Rounds.wp_signal 𝒱₀ ER (rd P) (d : Thread nD τ) none (dst := (part 0 d : Thread nD τ)) (sem := S) (r := 0) (d := 0) (k' := 1) (κ := K (cellAt (part 0 d) i))
      (by rw [hd]; exact Finset.mem_univ _) rfl () (O₀ := O') (O + tallyAt ((part 1 d : Thread nD τ), .reg S) () 1) (by rw [hO, add_assoc, add_comm (tallyAt ((part 0 d : Thread nD τ), SemLoc.reg S) () 1)]))
    $$ [HO Ht₀ Hp₀ HI₀]
  · isplitl [HI₀]; · iexact HI₀
    isplitl [HO]; · iexact HO
    isplitl [Ht₀]; · iexact Ht₀
    isplitl [Hp₀]; · iexact Hp₀
    iexact Hr₀
  iintro HO
  iapply (Rounds.wp_signal 𝒱₀ ER (rd P) (d : Thread nD τ) none (dst := (part 1 d : Thread nD τ)) (sem := S) (r := 0) (d := 1) (k' := 1) (κ := K (cellAt (part 1 d) i))
      (by rw [hd]; exact Finset.mem_univ _) rfl () O rfl)
    $$ [HO Ht₁ Hp₁ HI₁]
  · isplitl [HI₁]; · iexact HI₁
    isplitl [HO]; · iexact HO
    isplitl [Ht₁]; · iexact Ht₁
    isplitl [Hp₁]; · iexact Hp₁
    iexact Hr₁
  iintro HO
  iapply (hrule _ _ W) $$ [Hc HO Hat HI]
  · isplitl [HI]; · iexact HI
    isplitl [Hc]; · iexact Hc
    isplitl [HO]; · iexact HO
    isplitr
    · iapply (mayWait_of d _ O hA); unfold always; icases HA with ⟨-, #Hl⟩; iexact Hl
    iexact Hat
  iintro ⟨HO, Hat, -, Hpay⟩
  iapply (wp_done d)
  icases Hpay with ⟨Hp₀, Hp₁⟩
  isplitl [Hp₀]; · iexact Hp₀
  isplitl [Hp₁]; · iexact Hp₁
  isplitl [Hat]; · iexact Hat
  iexists _; iexact HO

/-! ## Chunks and their states -/

/-- Block `(c, s)` through the program: not computed, computed, sent, summed and sent on, finished. -/
def item (n : ℕ) (c : Fin 8) (s : Fin 2) : sProp 𝕄 := match n with
  | 0 => iprop(anyAt bufs.p d c s ∗ ready d 0 c s ∗ anyAt bufs.a d c s ∗ ready d 1 c s ∗ anyAt bufs.out d c s)
  | 1 => iprop(holds bufs.p d c s (P d c s) ∗ ready d 0 c s ∗ anyAt bufs.a d c s ∗ ready d 1 c s ∗ anyAt bufs.out d c s)
  | 2 => iprop(flying d 0 c s ∗ anyAt bufs.a d c s ∗ ready d 1 c s ∗ anyAt bufs.out d c s)
  | 3 => iprop(holds bufs.p d c s (P d c s) ∗ holds bufs.r₁ d c s (P (part s d) c s) ∗ past d 0 c s ∗ flying d 1 c s ∗ anyAt bufs.out d c s)
  | _ => iprop((holds bufs.p d c s (P d c s) ∗ holds bufs.r₁ d c s (P (part s d) c s) ∗ past d 0 c s)
      ∗ holds bufs.a d c s (sum1 P d c s) ∗ holds bufs.r₂ d c s (sum1 P (part (s + 1) d) c s) ∗ past d 1 c s ∗ holds bufs.out d c s (sum2 P d c s))

/-- Both halves of a chunk. -/
def pairAt (n : ℕ) (c : Fin 8) : sProp 𝕄 := iprop(item P d n c 0 ∗ item P d n c 1)

/-- The state of chunk `c` once `n₁` chunks are computed, `n₂` sent, `n₃` sent on and `n₄` finished. -/
def phase (n₁ n₂ n₃ n₄ : ℕ) (c : Fin 8) : ℕ := if c.val < n₄ then 4 else if c.val < n₃ then 3 else if c.val < n₂ then 2 else if c.val < n₁ then 1 else 0

/-- The state between two steps. -/
def State (n₁ n₂ n₃ n₄ : ℕ) : sProp 𝕄 :=
  iprop((bigSep Finset.univ fun c : Fin 8 => pairAt P d (phase n₁ n₂ n₃ n₄ c) c) ∗ owe d (owing d n₂ n₃))

variable {P K d}

theorem Tr.both {A B C : sProp 𝕄} {f : Fin 2 → KProg F PUnit} (h₀ : Tr P K d A (f 0) (fun _ => B)) (h₁ : Tr P K d B (f 1) (fun _ => C)) :
    Tr P K d A (both f) (fun _ => C) := by
  unfold Butterfly.both
  exact Tr.bind h₀ fun _ => h₁

/-- One chunk takes a step, the others stay. -/
theorem State.move {n₁ n₂ n₃ n₄ m₁ m₂ m₃ m₄ : ℕ} {p : KProg F PUnit} {i j : ℕ} (c : Fin 8) (R : sProp 𝕄)
    (hi : phase n₁ n₂ n₃ n₄ c = i) (hj : phase m₁ m₂ m₃ m₄ c = j) (h : ∀ c', c' ≠ c → phase m₁ m₂ m₃ m₄ c' = phase n₁ n₂ n₃ n₄ c')
    (hp : Tr P K d iprop(R ∗ pairAt P d i c ∗ owe d (owing d n₂ n₃)) p (fun _ => iprop(R ∗ pairAt P d j c ∗ owe d (owing d m₂ m₃)))) :
    Tr P K d iprop(R ∗ State P d n₁ n₂ n₃ n₄) p (fun _ => iprop(R ∗ State P d m₁ m₂ m₃ m₄)) := by
  have hu := bigSep_univ_update (Φ := fun c : Fin 8 => pairAt P d (phase n₁ n₂ n₃ n₄ c) c) (Ψ := fun c : Fin 8 => pairAt P d (phase m₁ m₂ m₃ m₄ c) c) c
    (fun c' hc' => by rw [h c' hc'])
  simp only [hi, hj] at hu
  unfold State
  refine Tr.conseq (Tr.sep iprop(pairAt P d j c -∗ bigSep Finset.univ fun c : Fin 8 => pairAt P d (phase m₁ m₂ m₃ m₄ c) c) hp) ?_ (fun _ => ?_)
  · iintro ⟨HR, HS, HO⟩
    ihave H := hu $$ HS
    icases H with ⟨Hc, Hw⟩
    isplitl [HR Hc HO]
    · isplitl [HR]; · iexact HR
      isplitl [Hc] <;> iassumption
    iexact Hw
  · iintro ⟨⟨HR, Hc, HO⟩, Hw⟩
    isplitl [HR]; · iexact HR
    isplitl [Hw Hc]
    · iapply Hw; iexact Hc
    iexact HO

variable (K d)

theorem step_rule (c : Fin 8) (n₁ n₂ n₃ n₄ : ℕ) (hc : c.val = n₁) (h : n₂ ≤ n₁ ∧ n₃ ≤ n₁ ∧ n₄ ≤ n₁) :
    Tr (val A) K d iprop(kvs d (A d).k (A d).v ∗ State (val A) d n₁ n₂ n₃ n₄)
      (chunk bufs (k0_pay3 (A d).wo) c (headAt bufs (k0_pay2 (A d).x (A d).wq) c))
      (fun _ => iprop(kvs d (A d).k (A d).v ∗ State (val A) d (n₁ + 1) n₂ n₃ n₄)) := by
  refine State.move (i := 0) (j := 1) c _ ?_ ?_ ?_ ?_
  · unfold phase; repeat rw [if_neg (by omega)]
  · unfold phase; rw [if_neg (by omega), if_neg (by omega), if_neg (by omega), if_pos (by omega)]
  · intro c' hc'
    have : c'.val ≠ n₁ := fun e => hc' (Fin.ext (e.trans hc.symm))
    unfold phase
    have e : (c'.val < n₁ + 1) ↔ (c'.val < n₁) := by omega
    simp only [e]
  · refine Tr.conseq (Tr.sep iprop((ready d 0 c 0 ∗ anyAt bufs.a d c 0 ∗ ready d 1 c 0 ∗ anyAt bufs.out d c 0)
        ∗ (ready d 0 c 1 ∗ anyAt bufs.a d c 1 ∗ ready d 1 c 1 ∗ anyAt bufs.out d c 1) ∗ owe d (owing d n₂ n₃))
      (chunk_rule (val A) K d (A d).k (A d).v (A d).x (A d).wq (A d).wo c)) ?_ (fun _ => ?_)
    · simp only [pairAt, item]
      iintro ⟨Hkv, ⟨⟨Hp₀, HR₀⟩, ⟨Hp₁, HR₁⟩⟩, HO⟩
      isplitl [Hkv Hp₀ Hp₁]
      · isplitl [Hkv]; · iexact Hkv
        isplitl [Hp₀] <;> iassumption
      isplitl [HR₀]; · iexact HR₀
      isplitl [HR₁] <;> iassumption
    · simp only [pairAt, item]
      iintro ⟨⟨Hkv, Hp₀, Hp₁⟩, HR₀, HR₁, HO⟩
      isplitl [Hkv]; · iexact Hkv
      isplitr [HO]
      · isplitl [Hp₀ HR₀]
        · isplitl [Hp₀]; · iexact Hp₀
          iexact HR₀
        · isplitl [Hp₁]; · iexact Hp₁
          iexact HR₁
      iexact HO

variable (P)

/-- What is owed while the two halves of a chunk are sent: first the one, then the other. -/
theorem owing_issue (c : Fin 8) (n : ℕ) : owing d c.val n = owing d (c.val + 1) n + tallyAt (rcvCell (part (1 + 0) d) 0 c 1) () N
    + tallyAt (rcvCell (part (0 + 0) d) 0 c 0) () N := by
  unfold owing; rw [dueFrom_succ]; unfold due; abel
theorem owing_advance (c : Fin 8) (n : ℕ) : owing d n c.val = owing d n (c.val + 1) + tallyAt (rcvCell (part (1 + 1) d) 1 c 1) () N
    + tallyAt (rcvCell (part (0 + 1) d) 1 c 0) () N := by
  unfold owing; rw [dueFrom_succ]; unfold due; abel

theorem issue_both (c : Fin 8) (n₁ n₂ n₃ n₄ : ℕ) (hc : c.val = n₂) (h : n₃ ≤ n₂ ∧ n₄ ≤ n₂ ∧ n₂ < n₁) (R : sProp 𝕄) :
    Tr P K d iprop(R ∗ State P d n₁ n₂ n₃ n₄) (both (issue bufs d c)) (fun _ => iprop(R ∗ State P d n₁ (n₂ + 1) n₃ n₄)) := by
  refine State.move (i := 1) (j := 2) c _ ?_ ?_ ?_ ?_
  · unfold phase; rw [if_neg (by omega), if_neg (by omega), if_neg (by omega), if_pos (by omega)]
  · unfold phase; rw [if_neg (by omega), if_neg (by omega), if_pos (by omega)]
  · intro c' hc'
    have : c'.val ≠ n₂ := fun e => hc' (Fin.ext (e.trans hc.symm))
    unfold phase
    have e : (c'.val < n₂ + 1) ↔ (c'.val < n₂) := by omega
    simp only [e]
  subst hc
  rw [owing_issue]
  simp only [pairAt, item]
  refine Tr.both (B := iprop((flying d 0 c 0 ∗ owe d (owing d (c.val + 1) n₃ + tallyAt (rcvCell (part (1 + 0) d) 0 c 1) () N))
      ∗ (anyAt bufs.a d c 0 ∗ ready d 1 c 0 ∗ anyAt bufs.out d c 0)
      ∗ (holds bufs.p d c 1 (P d c 1) ∗ ready d 0 c 1 ∗ anyAt bufs.a d c 1 ∗ ready d 1 c 1 ∗ anyAt bufs.out d c 1) ∗ R)) ?_ ?_
  · refine Tr.pre ?_ (Tr.sep _ (issue_rule P K d c 0 rfl))
    iintro ⟨HR, ⟨⟨Hp, Hr, HX⟩, HY⟩, HO⟩
    isplitl [Hp Hr HO]
    · isplitl [Hp]; · iexact Hp
      isplitl [Hr] <;> iassumption
    isplitl [HX]; · iexact HX
    isplitl [HY] <;> iassumption
  · refine Tr.conseq (Tr.sep iprop((flying d 0 c 0 ∗ anyAt bufs.a d c 0 ∗ ready d 1 c 0 ∗ anyAt bufs.out d c 0)
        ∗ (anyAt bufs.a d c 1 ∗ ready d 1 c 1 ∗ anyAt bufs.out d c 1) ∗ R) (issue_rule P K d c 1 (O := owing d (c.val + 1) n₃) rfl)) ?_ (fun _ => ?_)
    · iintro ⟨⟨Hf, HO⟩, HX, ⟨Hp, Hr, HY⟩, HR⟩
      isplitl [Hp Hr HO]
      · isplitl [Hp]; · iexact Hp
        isplitl [Hr] <;> iassumption
      isplitl [Hf HX]
      · isplitl [Hf] <;> iassumption
      isplitl [HY] <;> iassumption
    · iintro ⟨⟨Hf, HO⟩, HX, HY, HR⟩
      isplitl [HR]; · iexact HR
      isplitr [HO]
      · isplitl [HX]; · iexact HX
        isplitl [Hf] <;> iassumption
      iexact HO

theorem above_advance (c : Fin 8) (s : Fin 2) (n : ℕ) (h : c.val < n) : Above (order 0 c s) (owing d n c.val) :=
  have hs := s.isLt
  ((above_dueFin d (by unfold order; have := c.isLt; show 4 * (c.val + 2 * 0) + 2 * 0 + s.val + 2 < 1000; omega)).add
    (above_dueFrom d 0 n fun c' hc' => by
      unfold order; show 4 * (c.val + 2 * 0) + 2 * 0 + s.val + 2 < 4 * (c'.val + 2 * 0) + 2 * 0 + 0 + 2; omega)).add
    (above_dueFrom d 1 c.val fun c' hc' => by
      unfold order; show 4 * (c.val + 2 * 0) + 2 * 0 + s.val + 2 < 4 * (c'.val + 2 * 1) + 2 * 1 + 0 + 2; omega)
theorem above_drain (c : Fin 8) (s : Fin 2) (n n' : ℕ) (h : c.val + 3 ≤ n ∨ n = 8) (h' : c.val < n') : Above (order 1 c s) (owing d n n') :=
  have hs := s.isLt
  ((above_dueFin d (by unfold order; have := c.isLt; show 4 * (c.val + 2 * 1) + 2 * 1 + s.val + 2 < 1000; omega)).add
    (above_dueFrom d 0 n fun c' hc' => by
      have := c'.isLt
      unfold order; show 4 * (c.val + 2 * 1) + 2 * 1 + s.val + 2 < 4 * (c'.val + 2 * 0) + 2 * 0 + 0 + 2; omega)).add
    (above_dueFrom d 1 n' fun c' hc' => by
      unfold order; show 4 * (c.val + 2 * 1) + 2 * 1 + s.val + 2 < 4 * (c'.val + 2 * 1) + 2 * 1 + 0 + 2; omega)

theorem above_advance' (c : Fin 8) (n : ℕ) (h : c.val < n) :
    Above (order 0 c 1) (owing d n (c.val + 1) + tallyAt (rcvCell (part (1 + 1) d) 1 c 1) () N) := by
  refine Above.add ?_ (Above.tally ?_)
  · refine ((above_dueFin d (by unfold order; have := c.isLt; show 4 * (c.val + 2 * 0) + 2 * 0 + 1 + 2 < 1000; omega)).add
      (above_dueFrom d 0 n fun c' hc' => ?_)).add (above_dueFrom d 1 (c.val + 1) fun c' hc' => ?_)
    · unfold order; show 4 * (c.val + 2 * 0) + 2 * 0 + 1 + 2 < 4 * (c'.val + 2 * 0) + 2 * 0 + 0 + 2; omega
    · unfold order; show 4 * (c.val + 2 * 0) + 2 * 0 + 1 + 2 < 4 * (c'.val + 2 * 1) + 2 * 1 + 0 + 2; omega
  · rw [lv_rcv]; unfold order; show 4 * (c.val + 2 * 0) + 2 * 0 + 1 + 2 < 4 * (c.val + 2 * 1) + 2 * 1 + 1 + 2; omega

theorem advance_both (c : Fin 8) (n₁ n₂ n₃ n₄ : ℕ) (hc : c.val = n₃) (h : n₄ ≤ n₃ ∧ n₃ < n₂) (R : sProp 𝕄) :
    Tr P K d iprop(R ∗ State P d n₁ n₂ n₃ n₄) (both (advance bufs d c)) (fun _ => iprop(R ∗ State P d n₁ n₂ (n₃ + 1) n₄)) := by
  refine State.move (i := 2) (j := 3) c _ ?_ ?_ ?_ ?_
  · unfold phase; rw [if_neg (by omega), if_neg (by omega), if_pos (by omega)]
  · unfold phase; rw [if_neg (by omega), if_pos (by omega)]
  · intro c' hc'
    have : c'.val ≠ n₃ := fun e => hc' (Fin.ext (e.trans hc.symm))
    unfold phase
    have e : (c'.val < n₃ + 1) ↔ (c'.val < n₃) := by omega
    simp only [e]
  subst hc
  have hab := above_advance d c 0 n₂ h.2
  rw [owing_advance] at hab ⊢
  simp only [pairAt, item]
  refine Tr.both (B := iprop((holds bufs.p d c 0 (P d c 0) ∗ holds bufs.r₁ d c 0 (P (part 0 d) c 0) ∗ past d 0 c 0 ∗ flying d 1 c 0
        ∗ owe d (owing d n₂ (c.val + 1) + tallyAt (rcvCell (part (1 + 1) d) 1 c 1) () N))
      ∗ anyAt bufs.out d c 0 ∗ (flying d 0 c 1 ∗ anyAt bufs.a d c 1 ∗ ready d 1 c 1 ∗ anyAt bufs.out d c 1) ∗ R)) ?_ ?_
  · refine Tr.pre ?_ (Tr.sep _ (advance_rule P K d c 0 rfl hab))
    iintro ⟨HR, ⟨⟨Hf, Ha, Hr, HX⟩, HY⟩, HO⟩
    isplitl [Hf Ha Hr HO]
    · isplitl [Hf]; · iexact Hf
      isplitl [Ha]; · iexact Ha
      isplitl [Hr] <;> iassumption
    isplitl [HX]; · iexact HX
    isplitl [HY] <;> iassumption
  · refine Tr.conseq (Tr.sep iprop((holds bufs.p d c 0 (P d c 0) ∗ holds bufs.r₁ d c 0 (P (part 0 d) c 0) ∗ past d 0 c 0 ∗ flying d 1 c 0 ∗ anyAt bufs.out d c 0)
        ∗ anyAt bufs.out d c 1 ∗ R) (advance_rule P K d c 1 (O := owing d n₂ (c.val + 1)) rfl (above_advance' d c n₂ h.2))) ?_ (fun _ => ?_)
    · iintro ⟨⟨Hp, Hr₁, Hpa, Hf, HO⟩, HX, ⟨Hf₁, Ha, Hr, HY⟩, HR⟩
      isplitl [Hf₁ Ha Hr HO]
      · isplitl [Hf₁]; · iexact Hf₁
        isplitl [Ha]; · iexact Ha
        isplitl [Hr] <;> iassumption
      isplitl [Hp Hr₁ Hpa Hf HX]
      · isplitl [Hp]; · iexact Hp
        isplitl [Hr₁]; · iexact Hr₁
        isplitl [Hpa]; · iexact Hpa
        isplitl [Hf] <;> iassumption
      isplitl [HY] <;> iassumption
    · iintro ⟨⟨Hp, Hr₁, Hpa, Hf, HO⟩, HX, HY, HR⟩
      isplitl [HR]; · iexact HR
      isplitr [HO]
      · isplitl [HX]; · iexact HX
        isplitl [Hp]; · iexact Hp
        isplitl [Hr₁]; · iexact Hr₁
        isplitl [Hpa]; · iexact Hpa
        isplitl [Hf] <;> iassumption
      iexact HO

theorem drain_both (c : Fin 8) (n₁ n₂ n₃ n₄ : ℕ) (hc : c.val = n₄) (h : n₄ < n₃ ∧ (n₄ + 3 ≤ n₂ ∨ n₂ = 8)) (R : sProp 𝕄) :
    Tr P K d iprop(R ∗ State P d n₁ n₂ n₃ n₄) (both (drain bufs c)) (fun _ => iprop(R ∗ State P d n₁ n₂ n₃ (n₄ + 1))) := by
  refine State.move (i := 3) (j := 4) c _ ?_ ?_ ?_ ?_
  · unfold phase; rw [if_neg (by omega), if_pos (by omega)]
  · unfold phase; rw [if_pos (by omega)]
  · intro c' hc'
    have : c'.val ≠ n₄ := fun e => hc' (Fin.ext (e.trans hc.symm))
    unfold phase
    have e : (c'.val < n₄ + 1) ↔ (c'.val < n₄) := by omega
    simp only [e]
  subst hc
  simp only [pairAt, item]
  refine Tr.both (B := iprop((holds bufs.a d c 0 (sum1 P d c 0) ∗ holds bufs.r₂ d c 0 (sum1 P (part (0 + 1) d) c 0) ∗ holds bufs.out d c 0 (sum2 P d c 0)
        ∗ past d 1 c 0 ∗ owe d (owing d n₂ n₃))
      ∗ (holds bufs.p d c 0 (P d c 0) ∗ holds bufs.r₁ d c 0 (P (part 0 d) c 0) ∗ past d 0 c 0)
      ∗ (holds bufs.p d c 1 (P d c 1) ∗ holds bufs.r₁ d c 1 (P (part 1 d) c 1) ∗ past d 0 c 1 ∗ flying d 1 c 1 ∗ anyAt bufs.out d c 1) ∗ R)) ?_ ?_
  · refine Tr.pre ?_ (Tr.sep _ (drain_rule P K d c 0 (above_drain d c 0 n₂ n₃ h.2 h.1)))
    iintro ⟨HR, ⟨⟨Hp, Hr₁, Hpa, Hf, Ho⟩, HY⟩, HO⟩
    isplitl [Hf Ho HO]
    · isplitl [Hf]; · iexact Hf
      isplitl [Ho] <;> iassumption
    isplitl [Hp Hr₁ Hpa]
    · isplitl [Hp]; · iexact Hp
      isplitl [Hr₁] <;> iassumption
    isplitl [HY] <;> iassumption
  · refine Tr.conseq (Tr.sep iprop(((holds bufs.p d c 0 (P d c 0) ∗ holds bufs.r₁ d c 0 (P (part 0 d) c 0) ∗ past d 0 c 0)
          ∗ holds bufs.a d c 0 (sum1 P d c 0) ∗ holds bufs.r₂ d c 0 (sum1 P (part (0 + 1) d) c 0) ∗ past d 1 c 0 ∗ holds bufs.out d c 0 (sum2 P d c 0))
        ∗ (holds bufs.p d c 1 (P d c 1) ∗ holds bufs.r₁ d c 1 (P (part 1 d) c 1) ∗ past d 0 c 1) ∗ R)
      (drain_rule P K d c 1 (above_drain d c 1 n₂ n₃ h.2 h.1))) ?_ (fun _ => ?_)
    · iintro ⟨⟨Ha, Hr₂, Ho, Hpa, HO⟩, HX, ⟨Hp, Hr₁, Hpa', Hf, Ho'⟩, HR⟩
      isplitl [Hf Ho' HO]
      · isplitl [Hf]; · iexact Hf
        isplitl [Ho'] <;> iassumption
      isplitl [Ha Hr₂ Ho Hpa HX]
      · isplitl [HX]; · iexact HX
        isplitl [Ha]; · iexact Ha
        isplitl [Hr₂]; · iexact Hr₂
        isplitl [Hpa] <;> iassumption
      isplitl [Hp Hr₁ Hpa']
      · isplitl [Hp]; · iexact Hp
        isplitl [Hr₁] <;> iassumption
      iexact HR
    · iintro ⟨⟨Ha, Hr₂, Ho, Hpa, HO⟩, HX, HY, HR⟩
      isplitl [HR]; · iexact HR
      isplitr [HO]
      · isplitl [HX]; · iexact HX
        isplitl [HY]; · iexact HY
        isplitl [Ha]; · iexact Ha
        isplitl [Hr₂]; · iexact Hr₂
        isplitl [Hpa] <;> iassumption
      iexact HO

end Cert.KernelIdeal.Butterfly

end
-- ==== Proof.Run.lean ====
/- The kernel of a device from its start to its end. -/
module

public import proofs.«01_k».proof.Proof.Body

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : Dev nD → Ins F) (P : Dev nD → Fin 8 → Fin 2 → Blk F) (K : GSem nD τ sig → ℕ) (d : Dev nD)

/-- One of a finite family of assertions beside the others. -/
theorem one_of {ι : Type} [Fintype ι] [DecidableEq ι] (Φ : ι → sProp 𝕄) (i : ι) :
    bigSep Finset.univ Φ = iprop(Φ i ∗ bigSep (Finset.univ.erase i) Φ) := bigSep_univ_split i
/-- A family of pairs is a pair of families. -/
theorem two_of {ι : Type} [DecidableEq ι] (S : Finset ι) (Φ Ψ : ι → sProp 𝕄) :
    bigSep S (fun i => iprop(Φ i ∗ Ψ i)) = iprop(bigSep S Φ ∗ bigSep S Ψ) := bigSep_sep _ _ _

/-! ## What is held -/

/-- The inputs beside keys and values. -/
def weights (A : Ins F) : sProp 𝕄 :=
  iprop(owns (d : Thread nD τ) bufs.x fullShare A.x ∗ owns (d : Thread nD τ) bufs.wq fullShare A.wq ∗ owns (d : Thread nD τ) bufs.wo fullShare A.wo)

/-- What the sends and waits of block `(c, s)` need. -/
def rights (c : Fin 8) (s : Fin 2) : sProp 𝕄 := iprop((toks d 0 c s ∗ poss d 0 c s) ∗ (toks d 1 c s ∗ poss d 1 c s))
/-- A device's own blocks of half `s` of chunk `c`, the computed one aside. -/
def spare (c : Fin 8) (s : Fin 2) : sProp 𝕄 := iprop(anyAt bufs.a d c s ∗ anyAt bufs.out d c s)
/-- Its landing blocks for chunk `c`. -/
def lands (c : Fin 8) : sProp 𝕄 := iprop((landing d 0 c 0 ∗ landing d 1 c 1) ∗ (landing d 0 c 1 ∗ landing d 1 c 0))
/-- Its partners' landing blocks for chunk `c`. -/
def theirs (c : Fin 8) : sProp 𝕄 :=
  iprop((landing (part 0 d) 0 c 0 ∗ landing (part 0 d) 1 c 1) ∗ (landing (part 1 d) 0 c 1 ∗ landing (part 1 d) 1 c 0))

/-- Chunk `c` before it is computed, its landing blocks aside. -/
def raw (c : Fin 8) : sProp 𝕄 :=
  iprop((anyAt bufs.p d c 0 ∗ anyAt bufs.p d c 1) ∗ (spare d c 0 ∗ rights d c 0) ∗ (spare d c 1 ∗ rights d c 1))
/-- The same once it is computed. -/
def cooked (c : Fin 8) : sProp 𝕄 :=
  iprop((holds bufs.p d c 0 (P d c 0) ∗ holds bufs.p d c 1 (P d c 1)) ∗ (spare d c 0 ∗ rights d c 0) ∗ (spare d c 1 ∗ rights d c 1))

theorem cooked_pair (c : Fin 8) : iprop(cooked P d c ∗ theirs d c) ⊢ pairAt P d 1 c := by
  unfold cooked theirs spare rights
  simp only [pairAt, item, ready]
  iintro ⟨⟨⟨Hp₀, Hp₁⟩, ⟨⟨Ha, Ho⟩, ⟨Hx, Hx'⟩, ⟨Hy, Hy'⟩⟩, ⟨⟨Ha₁, Ho₁⟩, ⟨Hz, Hz'⟩, ⟨Hw, Hw'⟩⟩⟩, ⟨⟨L₀, L₁⟩, ⟨L₂, L₃⟩⟩⟩
  isplitl [Hp₀ Ha Ho Hx Hx' Hy Hy' L₀ L₃]
  · isplitl [Hp₀]; · iexact Hp₀
    isplitl [L₀ Hx Hx']
    · isplitl [L₀]; · iexact L₀
      isplitl [Hx]; · iexact Hx
      iexact Hx'
    isplitl [Ha]; · iexact Ha
    isplitl [L₃ Hy Hy']
    · isplitl [L₃]; · iexact L₃
      isplitl [Hy]; · iexact Hy
      iexact Hy'
    iexact Ho
  · isplitl [Hp₁]; · iexact Hp₁
    isplitl [L₂ Hz Hz']
    · isplitl [L₂]; · iexact L₂
      isplitl [Hz]; · iexact Hz
      iexact Hz'
    isplitl [Ha₁]; · iexact Ha₁
    isplitl [L₁ Hw Hw']
    · isplitl [L₁]; · iexact L₁
      isplitl [Hw]; · iexact Hw
      iexact Hw'
    iexact Ho₁

theorem raw_pair (c : Fin 8) : iprop(raw d c ∗ theirs d c) ⊢ pairAt P d 0 c := by
  unfold raw theirs spare rights
  simp only [pairAt, item, ready]
  iintro ⟨⟨⟨Hp₀, Hp₁⟩, ⟨⟨Ha, Ho⟩, ⟨Hx, Hx'⟩, ⟨Hy, Hy'⟩⟩, ⟨⟨Ha₁, Ho₁⟩, ⟨Hz, Hz'⟩, ⟨Hw, Hw'⟩⟩⟩, ⟨⟨L₀, L₁⟩, ⟨L₂, L₃⟩⟩⟩
  isplitl [Hp₀ Ha Ho Hx Hx' Hy Hy' L₀ L₃]
  · isplitl [Hp₀]; · iexact Hp₀
    isplitl [L₀ Hx Hx']
    · isplitl [L₀]; · iexact L₀
      isplitl [Hx]; · iexact Hx
      iexact Hx'
    isplitl [Ha]; · iexact Ha
    isplitl [L₃ Hy Hy']
    · isplitl [L₃]; · iexact L₃
      isplitl [Hy]; · iexact Hy
      iexact Hy'
    iexact Ho
  · isplitl [Hp₁]; · iexact Hp₁
    isplitl [L₂ Hz Hz']
    · isplitl [L₂]; · iexact L₂
      isplitl [Hz]; · iexact Hz
      iexact Hz'
    isplitl [Ha₁]; · iexact Ha₁
    isplitl [L₁ Hw Hw']
    · isplitl [L₁]; · iexact L₁
      isplitl [Hw]; · iexact Hw
      iexact Hw'
    iexact Ho₁

/-- Every chunk's landing blocks are what the first meeting hands to the two partners, -/
theorem give_lands : (bigSep Finset.univ fun c : Fin 8 => lands (F := F) d c) ∗ reached ER (finCell d) 0
    ⊢ iprop(barPay (F := F) 0 (part 0 d) ∗ barPay 1 (part 1 d)) := by
  unfold barPay lands
  rw [part_part, part_part, two_of]
  iintro ⟨⟨H₀, H₁⟩, #Hr⟩
  isplitl [H₀]
  · isplitl [H₀]; · iexact H₀
    iexact Hr
  · isplitl [H₁]; · iexact H₁
    iexact Hr
/-- and what it brings are the partners'. -/
theorem take_theirs : iprop(barPay (F := F) 0 d ∗ barPay 1 d)
    ⊢ iprop((bigSep Finset.univ fun c : Fin 8 => theirs d c) ∗ reached ER (finCell (part 0 d)) 0 ∗ reached ER (finCell (part 1 d)) 0) := by
  unfold barPay theirs
  rw [two_of Finset.univ (fun c : Fin 8 => iprop(landing (F := F) (part 0 d) 0 c 0 ∗ landing (part 0 d) 1 c 1))]
  iintro ⟨⟨H₀, #Hr₀⟩, ⟨H₁, #Hr₁⟩⟩
  isplitl [H₀ H₁]
  · isplitl [H₀]; · iexact H₀
    iexact H₁
  isplitr; · iexact Hr₀
  iexact Hr₁

/-- Once the first chunk is computed and the partners are met, the first state. -/
theorem first_state : iprop(cooked P d 0 ∗ (bigSep (Finset.univ.erase 0) fun c : Fin 8 => raw d c) ∗ (bigSep Finset.univ fun c : Fin 8 => theirs d c) ∗ owe d (owing d 0 0))
    ⊢ State P d 1 0 0 0 := by
  unfold State
  iintro ⟨H₀, HR, HT, HO⟩
  isplitr [HO]
  · ihave HT' := (Entails.of_eq (one_of (fun c : Fin 8 => theirs (F := F) d c) 0)) $$ HT
    icases HT' with ⟨T₀, TR⟩
    iapply (Entails.of_eq (one_of (fun c : Fin 8 => pairAt P d (phase 1 0 0 0 c) c) 0).symm)
    isplitl [H₀ T₀]
    · iapply (cooked_pair P d 0)
      isplitl [H₀] <;> iassumption
    · have hm : (bigSep (Finset.univ.erase 0) fun c : Fin 8 => iprop(raw d c ∗ theirs d c)) ⊢ bigSep (Finset.univ.erase 0) fun c : Fin 8 => pairAt P d (phase 1 0 0 0 c) c :=
        bigSep_mono fun c hc => by
          have : phase 1 0 0 0 c = 0 := by
            have : c.val ≠ 0 := fun h => Finset.ne_of_mem_erase hc (Fin.ext h)
            unfold phase; repeat rw [if_neg (by omega)]
          rw [this]; exact raw_pair P d c
      iapply hm
      iapply (Entails.of_eq (two_of _ _ _).symm)
      isplitl [HR] <;> iassumption
  iexact HO

/-! ## The program -/

/-- The kernel after its loads. -/
def rest (x wq wo : Full F) : KProg F PUnit := do
  let step (c : Fin 8) : KProg F PUnit := chunk bufs (k0_pay3 wo) c (headAt bufs (k0_pay2 x wq) c)
  step 0
  meet d barS
  both (issue bufs d 0)
  step 1
  both (issue bufs d 1)
  step 2
  both (issue bufs d 2)
  both (advance bufs d 0)
  step 3
  both (issue bufs d 3)
  both (advance bufs d 1)
  step 4
  both (issue bufs d 4)
  both (advance bufs d 2)
  step 5
  both (issue bufs d 5)
  both (advance bufs d 3)
  both (drain bufs 0)
  step 6
  both (issue bufs d 6)
  both (advance bufs d 4)
  both (drain bufs 1)
  step 7
  both (issue bufs d 7)
  both (advance bufs d 5)
  both (drain bufs 2)
  both (advance bufs d 6)
  both (advance bufs d 7)
  both (drain bufs 3)
  both (drain bufs 4)
  both (drain bufs 5)
  both (drain bufs 6)
  both (drain bufs 7)
  meet d finS

abbrev fullRect : Rect S1024x1024 := Rect.unit (s := S1024x1024) ![0, 0] S1024x1024.size inb_S1024x1024_S1024x1024_0_0

theorem kern_eq : kern (F := F) bufs = Prog.op .deviceId fun d =>
    .op (.load bufs.x fullRect.toLoadRect (View.loadsAt_vmem h_S1024x1024)) fun x =>
    .op (.load bufs.wq fullRect.toLoadRect (View.loadsAt_vmem h_S1024x1024)) fun wq =>
    .op (.load bufs.wo fullRect.toLoadRect (View.loadsAt_vmem h_S1024x1024)) fun wo => rest d x wq wo := rfl

theorem emb_full (j : fullRect.shape.Idx) : fullRect.emb j = j := by
  funext a
  apply Fin.ext
  rw [Rect.emb_apply]
  fin_cases a
  · show 0 + 1 * (j 0).val = (j 0).val; omega
  · show 0 + 1 * (j 1).val = (j 1).val; omega

/-- What remains when all chunks are done. -/
def ended : sProp 𝕄 := iprop((bigSep Finset.univ fun c : Fin 8 => pairAt P d 4 c)
  ∗ atPos ER (barCell d) (0 + 1) ∅ 0 ∗ atPos ER (finCell d) (0 + 1) ∅ 0 ∗ owe d 0)

variable {d} in
theorem step_on (c : Fin 8) (n₁ n₂ n₃ n₄ : ℕ) (hc : c.val = n₁) (h : n₂ ≤ n₁ ∧ n₃ ≤ n₁ ∧ n₄ ≤ n₁) (E : sProp 𝕄) :
    Tr (val A) K d iprop((kvs d (A d).k (A d).v ∗ E) ∗ State (val A) d n₁ n₂ n₃ n₄)
      (chunk bufs (k0_pay3 (A d).wo) c (headAt bufs (k0_pay2 (A d).x (A d).wq) c))
      (fun _ => iprop((kvs d (A d).k (A d).v ∗ E) ∗ State (val A) d (n₁ + 1) n₂ n₃ n₄)) := by
  refine Tr.conseq (Tr.sep E (step_rule A K d c n₁ n₂ n₃ n₄ hc h)) ?_ (fun _ => ?_)
  · iintro ⟨⟨H, HE⟩, HS⟩
    isplitr [HE]
    · isplitl [H] <;> iassumption
    iexact HE
  · iintro ⟨⟨H, HS⟩, HE⟩
    isplitr [HS]
    · isplitl [H] <;> iassumption
    iexact HS

theorem owing_all : owing d 8 8 = 0 + (tallyAt ((part 0 d : Thread nD τ), .reg finS) () 1 + tallyAt ((part 1 d : Thread nD τ), .reg finS) () 1) := by
  unfold owing; rw [dueFrom_all, dueFrom_all, add_zero, add_zero, zero_add]; rfl

theorem fin_meet :
    Tr (val A) K d iprop(meeting d finS ∗ reached ER (finCell (part 0 d)) 0 ∗ reached ER (finCell (part 1 d)) 0 ∗ owe d (owing d 8 8))
      (meet d finS) (fun _ => iprop(atPos ER (finCell d) (0 + 1) ∅ 0 ∗ owe d 0)) := by
  refine Tr.conseq (meet_rule (val A) K d finS (.inl (.inr ())) rfl (fun e => duties_fin (val A) e) (expect_fin (val A) d) (owing_all d) (Above.zero _)) ?_ (fun _ => ?_)
  · rw [show (rd (val A)).payload ((part 0 d : Thread nD τ), .reg finS) 0 0 = iprop(emp) from payload_fin (val A) (part 0 d) 0,
      show (rd (val A)).payload ((part 1 d : Thread nD τ), .reg finS) 0 1 = iprop(emp) from payload_fin (val A) (part 1 d) 1]
    iintro ⟨Hm, Hr₀, Hr₁, HO⟩
    isplitl [Hm]; · iexact Hm
    isplitr; · iempintro
    isplitr; · iempintro
    isplitl [Hr₀]; · iexact Hr₀
    isplitl [Hr₁] <;> iassumption
  · iintro ⟨-, -, Hat, HO⟩
    isplitl [Hat] <;> iassumption

theorem bar_meet :
    Tr (val A) K d iprop(meeting d barS ∗ barPay 0 (part 0 d) ∗ barPay 1 (part 1 d)
        ∗ reached ER (barCell (part 0 d)) 0 ∗ reached ER (barCell (part 1 d)) 0 ∗ owe d (O₀ d))
      (meet d barS) (fun _ => iprop(barPay 0 d ∗ barPay 1 d ∗ atPos ER (barCell d) (0 + 1) ∅ 0 ∗ owe d (owing d 0 0))) := by
  have h := meet_rule (val A) K d barS (.inr ()) rfl (fun e => duties_bar (val A) e) (expect_bar (val A) d) (O := owing d 0 0) (O' := O₀ d) rfl
    (by rw [show lv ((d : Thread nD τ), .reg barS) () = 1 from lv_bar d]; exact above_owing d 0 0)
  rw [payload_bar, payload_bar, payload_bar, payload_bar] at h
  exact h

/-- What the kernel starts from, beside its inputs. -/
def started : sProp 𝕄 := iprop((bigSep Finset.univ fun c : Fin 8 => raw d c) ∗ ((bigSep Finset.univ fun c : Fin 8 => lands d c) ∗ reached ER (finCell d) 0)
  ∗ (meeting d barS ∗ reached ER (barCell (part 0 d)) 0 ∗ reached ER (barCell (part 1 d)) 0) ∗ meeting d finS ∗ owe d (O₀ d))

theorem rest_rule :
    Tr (val A) K d iprop(kvs d (A d).k (A d).v ∗ started d) (rest d (A d).x (A d).wq (A d).wo) (fun _ => iprop(kvs d (A d).k (A d).v ∗ ended (val A) d)) := by
  unfold rest
  -- the first chunk
  refine Tr.bind (B := fun _ => iprop((kvs d (A d).k (A d).v ∗ holds bufs.p d 0 0 (val A d 0 0) ∗ holds bufs.p d 0 1 (val A d 0 1))
      ∗ ((spare d 0 0 ∗ rights d 0 0) ∗ (spare d 0 1 ∗ rights d 0 1)) ∗ (bigSep (Finset.univ.erase 0) fun c : Fin 8 => raw d c)
        ∗ ((bigSep Finset.univ fun c : Fin 8 => lands d c) ∗ reached ER (finCell d) 0)
        ∗ (meeting d barS ∗ reached ER (barCell (part 0 d)) 0 ∗ reached ER (barCell (part 1 d)) 0) ∗ meeting d finS ∗ owe d (O₀ d))) ?_ fun _ => ?_
  · refine Tr.pre ?_ (Tr.sep _ (chunk_rule (val A) K d (A d).k (A d).v (A d).x (A d).wq (A d).wo 0))
    unfold started
    rw [one_of (fun c : Fin 8 => raw (F := F) d c) 0]
    unfold raw
    iintro ⟨Hkv, ⟨⟨Hp, Hx⟩, HR⟩, HL, HB, HF, HO⟩
    isplitl [Hkv Hp]
    · isplitl [Hkv] <;> iassumption
    isplitl [Hx]; · iexact Hx
    isplitl [HR]; · iexact HR
    isplitl [HL]; · iexact HL
    isplitl [HB]; · iexact HB
    isplitl [HF] <;> iassumption
  -- the meeting
  refine Tr.bind (B := fun _ => iprop((kvs d (A d).k (A d).v ∗ (meeting d finS ∗ reached ER (finCell (part 0 d)) 0 ∗ reached ER (finCell (part 1 d)) 0) ∗ atPos ER (barCell d) (0 + 1) ∅ 0)
      ∗ State (val A) d 1 0 0 0)) ?_ fun _ => ?_
  · refine Tr.conseq (Tr.sep iprop((kvs d (A d).k (A d).v ∗ meeting d finS) ∗ cooked (val A) d 0 ∗ (bigSep (Finset.univ.erase 0) fun c : Fin 8 => raw d c)) (bar_meet A K d)) ?_ (fun _ => ?_)
    · iintro ⟨⟨Hkv, Hp⟩, Hx, HR, HL, ⟨HB, Hr₀, Hr₁⟩, HF, HO⟩
      ihave HL' := (give_lands d) $$ HL
      icases HL' with ⟨HL₀, HL₁⟩
      isplitl [HB HL₀ HL₁ Hr₀ Hr₁ HO]
      · isplitl [HB]; · iexact HB
        isplitl [HL₀]; · iexact HL₀
        isplitl [HL₁]; · iexact HL₁
        isplitl [Hr₀]; · iexact Hr₀
        isplitl [Hr₁] <;> iassumption
      isplitl [Hkv HF]
      · isplitl [Hkv] <;> iassumption
      isplitl [Hp Hx]
      · unfold cooked; isplitl [Hp] <;> iassumption
      iexact HR
    · iintro ⟨⟨Hb₀, Hb₁, Hat, HO⟩, ⟨Hkv, HF⟩, Hc, HR⟩
      ihave HT := (take_theirs d) $$ [Hb₀ Hb₁]
      · isplitl [Hb₀] <;> iassumption
      icases HT with ⟨HT, Hr₀, Hr₁⟩
      isplitl [Hkv HF Hr₀ Hr₁ Hat]
      · isplitl [Hkv]; · iexact Hkv
        isplitr [Hat]
        · isplitl [HF]; · iexact HF
          isplitl [Hr₀] <;> iassumption
        iexact Hat
      iapply (first_state (val A) d)
      isplitl [Hc]; · iexact Hc
      isplitl [HR]; · iexact HR
      isplitl [HT] <;> iassumption
  -- the chunks
  refine Tr.bind (issue_both (val A) K d 0 1 0 0 0 rfl (by decide) _) fun _ => ?_
  refine Tr.bind (step_on A K 1 1 1 0 0 rfl (by decide) _) fun _ => ?_
  refine Tr.bind (issue_both (val A) K d 1 2 1 0 0 rfl (by decide) _) fun _ => ?_
  refine Tr.bind (step_on A K 2 2 2 0 0 rfl (by decide) _) fun _ => ?_
  refine Tr.bind (issue_both (val A) K d 2 3 2 0 0 rfl (by decide) _) fun _ => ?_
  refine Tr.bind (advance_both (val A) K d 0 3 3 0 0 rfl (by decide) _) fun _ => ?_
  refine Tr.bind (step_on A K 3 3 3 1 0 rfl (by decide) _) fun _ => ?_
  refine Tr.bind (issue_both (val A) K d 3 4 3 1 0 rfl (by decide) _) fun _ => ?_
  refine Tr.bind (advance_both (val A) K d 1 4 4 1 0 rfl (by decide) _) fun _ => ?_
  refine Tr.bind (step_on A K 4 4 4 2 0 rfl (by decide) _) fun _ => ?_
  refine Tr.bind (issue_both (val A) K d 4 5 4 2 0 rfl (by decide) _) fun _ => ?_
  refine Tr.bind (advance_both (val A) K d 2 5 5 2 0 rfl (by decide) _) fun _ => ?_
  refine Tr.bind (step_on A K 5 5 5 3 0 rfl (by decide) _) fun _ => ?_
  refine Tr.bind (issue_both (val A) K d 5 6 5 3 0 rfl (by decide) _) fun _ => ?_
  refine Tr.bind (advance_both (val A) K d 3 6 6 3 0 rfl (by decide) _) fun _ => ?_
  refine Tr.bind (drain_both (val A) K d 0 6 6 4 0 rfl (by decide) _) fun _ => ?_
  refine Tr.bind (step_on A K 6 6 6 4 1 rfl (by decide) _) fun _ => ?_
  refine Tr.bind (issue_both (val A) K d 6 7 6 4 1 rfl (by decide) _) fun _ => ?_
  refine Tr.bind (advance_both (val A) K d 4 7 7 4 1 rfl (by decide) _) fun _ => ?_
  refine Tr.bind (drain_both (val A) K d 1 7 7 5 1 rfl (by decide) _) fun _ => ?_
  refine Tr.bind (step_on A K 7 7 7 5 2 rfl (by decide) _) fun _ => ?_
  refine Tr.bind (issue_both (val A) K d 7 8 7 5 2 rfl (by decide) _) fun _ => ?_
  refine Tr.bind (advance_both (val A) K d 5 8 8 5 2 rfl (by decide) _) fun _ => ?_
  refine Tr.bind (drain_both (val A) K d 2 8 8 6 2 rfl (by decide) _) fun _ => ?_
  refine Tr.bind (advance_both (val A) K d 6 8 8 6 3 rfl (by decide) _) fun _ => ?_
  refine Tr.bind (advance_both (val A) K d 7 8 8 7 3 rfl (by decide) _) fun _ => ?_
  refine Tr.bind (drain_both (val A) K d 3 8 8 8 3 rfl (by decide) _) fun _ => ?_
  refine Tr.bind (drain_both (val A) K d 4 8 8 8 4 rfl (by decide) _) fun _ => ?_
  refine Tr.bind (drain_both (val A) K d 5 8 8 8 5 rfl (by decide) _) fun _ => ?_
  refine Tr.bind (drain_both (val A) K d 6 8 8 8 6 rfl (by decide) _) fun _ => ?_
  refine Tr.bind (drain_both (val A) K d 7 8 8 8 7 rfl (by decide) _) fun _ => ?_
  -- the last meeting
  refine Tr.conseq (Tr.sep iprop(kvs d (A d).k (A d).v ∗ (bigSep Finset.univ fun c : Fin 8 => pairAt (val A) d 4 c) ∗ atPos ER (barCell d) (0 + 1) ∅ 0) (fin_meet A K d)) ?_ (fun _ => ?_)
  · have hs : State (val A) d 8 8 8 (7 + 1) ⊢ iprop((bigSep Finset.univ fun c : Fin 8 => pairAt (val A) d 4 c) ∗ owe d (owing d 8 8)) := by
      unfold State
      refine sep_mono_left (bigSep_mono fun c _ => ?_)
      rw [show phase 8 8 8 (7 + 1) c = 4 from if_pos c.isLt]; exact BI.Entails.refl _
    iintro ⟨⟨Hkv, HF, Hat⟩, HS⟩
    ihave HS' := hs $$ HS
    icases HS' with ⟨HS, HO⟩
    icases HF with ⟨HF, Hr₀, Hr₁⟩
    isplitl [HF Hr₀ Hr₁ HO]
    · isplitl [HF]; · iexact HF
      isplitl [Hr₀]; · iexact Hr₀
      isplitl [Hr₁] <;> iassumption
    isplitl [Hkv]; · iexact Hkv
    isplitl [HS] <;> iassumption
  · unfold ended
    iintro ⟨⟨Hf, HO⟩, Hkv, HS, Hat⟩
    isplitl [Hkv]; · iexact Hkv
    isplitl [HS]; · iexact HS
    isplitl [Hat]; · iexact Hat
    isplitl [Hf] <;> iassumption

/-- The whole kernel. -/
theorem kern_rule : Tr (val A) K d iprop(weights d (A d) ∗ kvs d (A d).k (A d).v ∗ started d) (kern bufs)
    (fun _ => iprop(weights d (A d) ∗ kvs d (A d).k (A d).v ∗ ended (val A) d)) := by
  have hf (X : Full F) : (fun j => X (fullRect.emb j)) = X := funext fun j => congrArg X (emb_full j)
  have hr := Tr.sep (weights d (A d)) (rest_rule A K d)
  rw [kern_eq]
  unfold Tr at hr ⊢
  unfold runs
  rw [wp_deviceId]
  unfold weights at hr ⊢
  iintro ⟨#HA, ⟨Hx, Hwq, Hwo⟩, HS⟩
  iapply (load_rule d bufs.x fullRect (A d).x) $$ Hx
  iintro Hx
  iapply (load_rule d bufs.wq fullRect (A d).wq) $$ Hwq
  iintro Hwq
  iapply (load_rule d bufs.wo fullRect (A d).wo) $$ Hwo
  iintro Hwo
  rw [hf, hf, hf]
  iapply (wp_mono frame (wpE (defs₀ (F := F)) 𝒱₀ (d : Thread nD τ) none) Set.univ (p := rest d (A d).x (A d).wq (A d).wo)
    (Q := fun _ => iprop((kvs d (A d).k (A d).v ∗ ended (val A) d) ∗ owns (d : Thread nD τ) bufs.x fullShare (A d).x ∗ owns (d : Thread nD τ) bufs.wq fullShare (A d).wq ∗ owns (d : Thread nD τ) bufs.wo fullShare (A d).wo))
    (fun _ => by
      iintro ⟨H, HW⟩
      isplitl [HW]; · iexact HW
      iexact H))
  iapply hr
  isplitr; · iexact HA
  isplitl [HS]; · iexact HS
  isplitl [Hx]; · iexact Hx
  isplitl [Hwq] <;> iassumption

end Cert.KernelIdeal.Butterfly

end
-- ==== Proof.Whole.lean ====
/- A device's kernel over whole buffers and all its semaphores. -/
module

public import proofs.«01_k».proof.Proof.Run

@[expose] public section

set_option maxRecDepth 16384

noncomputable section

namespace Cert.KernelIdeal.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : Dev nD → Ins F) (P : Dev nD → Fin 8 → Fin 2 → Blk F) (K : GSem nD τ sig → ℕ) (d : Dev nD)

/-! ## A buffer as its sixteen blocks -/

/-- The block an element lies in, and where. -/
def chunkOf (i : S1024x1024.Idx) : Fin 8 := ⟨(i 0).val / 128, by have : (i 0).val < 1024 := (i 0).isLt; omega⟩
def halfOf (i : S1024x1024.Idx) : Fin 2 := ⟨(i 1).val / 512, by have : (i 1).val < 1024 := (i 1).isLt; omega⟩
theorem inside_lt (i : S1024x1024.Idx) : ∀ a : Fin 2, (i a).val % (![128, 512] : Fin 2 → ℕ) a < S128x512.size a := by
  intro a
  fin_cases a
  · exact Nat.mod_lt _ (by decide)
  · exact Nat.mod_lt _ (by decide)
def inside (i : S1024x1024.Idx) : S128x512.Idx := fun a => ⟨(i a).val % (![128, 512] : Fin 2 → ℕ) a, inside_lt i a⟩

/-- The buffer with blocks `w`. -/
def glued (w : Fin 8 → Fin 2 → Blk F) : Full F := fun i => w (chunkOf i) (halfOf i) (inside i)

theorem chunk_emb (c : Fin 8) (s : Fin 2) (j : S128x512.Idx) : chunkOf ((blk c s).emb j) = c := by
  have h : (j 0).val < 128 := (j 0).isLt
  apply Fin.ext
  show ((blk c s).emb j 0).val / 128 = c.val
  rw [Rect.emb_apply]
  show (128 * c.val + 1 * (j 0).val) / 128 = c.val
  omega
theorem half_emb (c : Fin 8) (s : Fin 2) (j : S128x512.Idx) : halfOf ((blk c s).emb j) = s := by
  have h : (j 1).val < 512 := (j 1).isLt
  apply Fin.ext
  show ((blk c s).emb j 1).val / 512 = s.val
  rw [Rect.emb_apply]
  show (512 * s.val + 1 * (j 1).val) / 512 = s.val
  omega
theorem inside_emb (c : Fin 8) (s : Fin 2) (j : S128x512.Idx) : inside ((blk c s).emb j) = j := by
  have h₀ : (j 0).val < 128 := (j 0).isLt
  have h₁ : (j 1).val < 512 := (j 1).isLt
  funext a
  apply Fin.ext
  show ((blk c s).emb j a).val % (![128, 512] : Fin 2 → ℕ) a = (j a).val
  rw [Rect.emb_apply]
  fin_cases a
  · show (128 * c.val + 1 * (j 0).val) % 128 = (j 0).val; omega
  · show (512 * s.val + 1 * (j 1).val) % 512 = (j 1).val; omega
theorem emb_inside (i : S1024x1024.Idx) : (blk (chunkOf i) (halfOf i)).emb (inside i) = i := by
  funext a
  apply Fin.ext
  rw [Rect.emb_apply]
  fin_cases a
  · show 128 * ((i 0).val / 128) + 1 * ((i 0).val % 128) = (i 0).val; omega
  · show 512 * ((i 1).val / 512) + 1 * ((i 1).val % 512) = (i 1).val; omega

theorem glued_emb (w : Fin 8 → Fin 2 → Blk F) (c : Fin 8) (s : Fin 2) : (fun j => glued w ((blk c s).emb j)) = w c s := by
  funext j
  show w (chunkOf _) (halfOf _) (inside _) = _
  rw [chunk_emb, half_emb, inside_emb]

theorem mem_blk (c : Fin 8) (s : Fin 2) (i : S1024x1024.Idx) : i ∈ (blk c s).set ↔ chunkOf i = c ∧ halfOf i = s := by
  rw [Rect.mem_set_unit]
  constructor
  · intro h
    have h₀ : 128 * c.val ≤ (i 0).val ∧ (i 0).val < 128 * c.val + 128 := h 0
    have h₁ : 512 * s.val ≤ (i 1).val ∧ (i 1).val < 512 * s.val + 512 := h 1
    exact ⟨Fin.ext (show (i 0).val / 128 = c.val by omega), Fin.ext (show (i 1).val / 512 = s.val by omega)⟩
  · rintro ⟨rfl, rfl⟩ a
    fin_cases a
    · show 128 * ((i 0).val / 128) ≤ (i 0).val ∧ (i 0).val < 128 * ((i 0).val / 128) + 128; omega
    · show 512 * ((i 1).val / 512) ≤ (i 1).val ∧ (i 1).val < 512 * ((i 1).val / 512) + 512; omega

theorem blk_disj (x y : Fin 8 × Fin 2) (h : x ≠ y) : Disjoint (blk x.1 x.2).set (blk y.1 y.2).set := by
  rw [Finset.disjoint_left]
  intro i hx hy
  obtain ⟨h₁, h₂⟩ := (mem_blk _ _ i).mp hx
  obtain ⟨h₃, h₄⟩ := (mem_blk _ _ i).mp hy
  exact h (Prod.ext (h₁.symm.trans h₃) (h₂.symm.trans h₄))
theorem blk_cover : (Finset.univ : Finset (Fin 8 × Fin 2)).biUnion (fun x => (blk x.1 x.2).set) = Finset.univ := by
  ext i
  simp only [Finset.mem_biUnion, Finset.mem_univ, true_and, iff_true]
  exact ⟨(chunkOf i, halfOf i), (mem_blk _ _ i).mpr ⟨rfl, rfl⟩⟩

/-- A family over the sixteen blocks, chunk by chunk. -/
theorem by_chunk (Ψ : Fin 8 → Fin 2 → sProp 𝕄) :
    (bigSep Finset.univ fun x : Fin 8 × Fin 2 => Ψ x.1 x.2) = bigSep Finset.univ fun c : Fin 8 => iprop(Ψ c 0 ∗ Ψ c 1) := by
  rw [bigSep_univ_prod]
  exact bigSep_congr fun c _ => bigSep_univ_two _

theorem any_of (m : Mat) (d : Dev nD) (c : Fin 8) (s : Fin 2) (w : Blk F) : holds m d c s w ⊢ anyAt m d c s := by
  unfold anyAt
  iintro H
  iexists _
  iexact H
theorem cut (m : Mat) (X : Full F) : owns (d : Thread nD τ) m fullShare X ⊢ bigSep Finset.univ fun c : Fin 8 => iprop(anyAt m d c 0 ∗ anyAt m d c 1) := by
  rw [← by_chunk (fun c s => anyAt m d c s)]
  refine (owns_rects (d : Thread nD τ) m fullShare (fun x : Fin 8 × Fin 2 => blk x.1 x.2) (fun _ _ => rfl) blk_disj blk_cover X).trans (bigSep_mono fun x _ => ?_)
  exact any_of m d x.1 x.2 _
theorem paste (m : Mat) (w : Fin 8 → Fin 2 → Blk F) :
    (bigSep Finset.univ fun c : Fin 8 => iprop(holds m d c 0 (w c 0) ∗ holds m d c 1 (w c 1))) ⊢ owns (d : Thread nD τ) m fullShare (glued w) := by
  rw [← by_chunk (fun c s => holds m d c s (w c s))]
  refine (Entails.of_eq ?_).trans (owns_of_rects (d : Thread nD τ) m fullShare (fun x : Fin 8 × Fin 2 => blk x.1 x.2) (fun _ _ => rfl) blk_disj blk_cover (glued w))
  refine bigSep_congr fun x _ => ?_
  rw [glued_emb]

/-! ## A device's cells and tokens -/

/-- A family over both rounds' blocks, chunk by chunk. -/
theorem by_round (Ψ : Fin 2 → Fin 8 → Fin 2 → sProp 𝕄) :
    (bigSep Finset.univ fun x : Fin 2 × Fin 8 × Fin 2 => Ψ x.1 x.2.1 x.2.2)
      = iprop((bigSep Finset.univ fun c : Fin 8 => iprop(Ψ 0 c 0 ∗ Ψ 0 c 1)) ∗ bigSep Finset.univ fun c : Fin 8 => iprop(Ψ 1 c 0 ∗ Ψ 1 c 1)) := by
  rw [bigSep_univ_prod, bigSep_univ_two, by_chunk (fun c s => Ψ 0 c s), by_chunk (fun c s => Ψ 1 c s)]

/-- A family over a device's cells: departures, arrivals, and the last meeting. -/
theorem by_own (Ψ : Own → sProp 𝕄) :
    bigSep Finset.univ Ψ = iprop(((bigSep Finset.univ fun x : Fin 2 × Fin 8 × Fin 2 => Ψ (.inl (0, x))) ∗ bigSep Finset.univ fun x : Fin 2 × Fin 8 × Fin 2 => Ψ (.inl (1, x)))
      ∗ Ψ (.inr ())) := by
  rw [bigSep_univ_sum, bigSep_univ_prod, bigSep_univ_two]
  refine congrArg _ ?_
  rw [show (Finset.univ : Finset Unit) = {()} from rfl, bigSep_singleton]

/-- A device's own cells in use. -/
def opened : sProp 𝕄 := bigSep Finset.univ fun k : Own => iprop(atPos ER ((d : Thread nD τ), osem k) 0 ∅ 0 ∗ reached ER ((d : Thread nD τ), osem k) 0)
/-- What the launch deals a device for its copies, -/
def deal : sProp 𝕄 := bigSep Finset.univ fun x : Fin 2 × Fin 8 × Fin 2 =>
  iprop(dutyTok ER (sndCell d x.1 x.2.1 x.2.2) 0 0 ∗ dutyTok ER (rcvCell (part (x.2.2 + x.1) d) x.1 x.2.1 x.2.2) 0 0 ∗ cred (tallyAt (rcvCell d x.1 x.2.1 x.2.2) () N))
/-- for a meeting, -/
def invite (S : Sem sig) : sProp 𝕄 :=
  iprop(dutyTok ER ((part 0 d : Thread nD τ), .reg S) 0 0 ∗ dutyTok ER ((part 1 d : Thread nD τ), .reg S) 0 1 ∗ cred (tallyAt ((d : Thread nD τ), .reg S) () 2))
/-- and in all, but for the invariants and its debt. -/
def dealt : sProp 𝕄 :=
  iprop(deal d ∗ (invite d barS ∗ atPos ER (barCell d) 0 ∅ 0) ∗ (reached ER (barCell (part 0 d)) 0 ∗ reached ER (barCell (part 1 d)) 0) ∗ invite d finS)

theorem invite_meeting (S : Sem sig) : iprop(invite (F := F) d S ∗ atPos ER ((d : Thread nD τ), .reg S) 0 ∅ 0) ⊢ meeting d S := by
  unfold invite meeting
  iintro ⟨⟨H₀, H₁, Hc⟩, Ha⟩
  isplitl [H₀]; · iexact H₀
  isplitl [H₁]; · iexact H₁
  isplitl [Hc] <;> iassumption

/-- The rights of one copy, and that its arrival cell is in use. -/
def use (t : Fin 2) (c : Fin 8) (s : Fin 2) : sProp 𝕄 := iprop((toks d t c s ∗ poss d t c s) ∗ reached ER (rcvCell d t c s) 0)

/-- One copy's positions and tokens. -/
def part₁ (t : Fin 2) (c : Fin 8) (s : Fin 2) : sProp 𝕄 := iprop(atPos ER (sndCell d t c s) 0 ∅ 0 ∗ reached ER (sndCell d t c s) 0)
def part₂ (t : Fin 2) (c : Fin 8) (s : Fin 2) : sProp 𝕄 := iprop(atPos ER (rcvCell d t c s) 0 ∅ 0 ∗ reached ER (rcvCell d t c s) 0)
def part₃ (t : Fin 2) (c : Fin 8) (s : Fin 2) : sProp 𝕄 :=
  iprop(dutyTok ER (sndCell d t c s) 0 0 ∗ dutyTok ER (rcvCell (part (s + t) d) t c s) 0 0 ∗ cred (tallyAt (rcvCell d t c s) () N))
theorem parts_use (t : Fin 2) (c : Fin 8) (s : Fin 2) : iprop(part₁ (F := F) d t c s ∗ part₂ d t c s ∗ part₃ d t c s) ⊢ use d t c s := by
  unfold part₁ part₂ part₃ use toks poss
  iintro ⟨⟨H₁, H₂⟩, ⟨H₃, H₄⟩, ⟨H₅, H₆, H₇⟩⟩
  isplitr [H₄]
  · isplitl [H₂ H₅ H₆]
    · isplitl [H₅]; · iexact H₅
      isplitl [H₂] <;> iassumption
    isplitl [H₁]; · iexact H₁
    isplitl [H₃] <;> iassumption
  iexact H₄

theorem opened_eq : opened (F := F) d = iprop(((bigSep Finset.univ fun x : Fin 2 × Fin 8 × Fin 2 => part₁ d x.1 x.2.1 x.2.2) ∗ bigSep Finset.univ fun x : Fin 2 × Fin 8 × Fin 2 => part₂ d x.1 x.2.1 x.2.2)
    ∗ (atPos ER (finCell d) 0 ∅ 0 ∗ reached ER (finCell d) 0)) := by
  unfold opened
  rw [by_own]
  rfl

theorem use_of : iprop(opened d ∗ deal (F := F) d)
    ⊢ iprop((bigSep Finset.univ fun x : Fin 2 × Fin 8 × Fin 2 => use d x.1 x.2.1 x.2.2) ∗ atPos ER (finCell d) 0 ∅ 0 ∗ reached ER (finCell d) 0) := by
  have hm : iprop((bigSep Finset.univ fun x : Fin 2 × Fin 8 × Fin 2 => part₁ (F := F) d x.1 x.2.1 x.2.2) ∗ (bigSep Finset.univ fun x : Fin 2 × Fin 8 × Fin 2 => part₂ d x.1 x.2.1 x.2.2)
      ∗ (bigSep Finset.univ fun x : Fin 2 × Fin 8 × Fin 2 => part₃ d x.1 x.2.1 x.2.2)) ⊢ bigSep Finset.univ fun x : Fin 2 × Fin 8 × Fin 2 => use (F := F) d x.1 x.2.1 x.2.2 := by
    rw [← two_of, ← two_of]
    exact bigSep_mono fun x _ => parts_use d x.1 x.2.1 x.2.2
  rw [opened_eq, show deal (F := F) d = bigSep Finset.univ fun x : Fin 2 × Fin 8 × Fin 2 => part₃ d x.1 x.2.1 x.2.2 from rfl]
  iintro ⟨⟨⟨Hs, Hr⟩, Hf⟩, Hd⟩
  isplitr [Hf]
  · iapply hm
    isplitl [Hs]; · iexact Hs
    isplitl [Hr]; · iexact Hr
    iexact Hd
  · iexact Hf

/-! ## From whole buffers to chunks -/

/-- The buffers that no input is staged in. -/
def scratch : sProp 𝕄 :=
  iprop((∃ X : Full F, owns (d : Thread nD τ) bufs.p fullShare X) ∗ (∃ X : Full F, owns (d : Thread nD τ) bufs.r₁ fullShare X)
    ∗ (∃ X : Full F, owns (d : Thread nD τ) bufs.a fullShare X) ∗ (∃ X : Full F, owns (d : Thread nD τ) bufs.r₂ fullShare X))

theorem arrange (c : Fin 8) :
    iprop(((anyAt bufs.p d c 0 ∗ anyAt bufs.p d c 1) ∗ (anyAt bufs.r₁ d c 0 ∗ anyAt bufs.r₁ d c 1) ∗ (anyAt bufs.a d c 0 ∗ anyAt bufs.a d c 1)
        ∗ (anyAt bufs.r₂ d c 0 ∗ anyAt bufs.r₂ d c 1) ∗ (anyAt bufs.out d c 0 ∗ anyAt bufs.out d c 1)) ∗ ((use d 0 c 0 ∗ use d 0 c 1) ∗ (use d 1 c 0 ∗ use d 1 c 1)))
      ⊢ iprop(raw (F := F) d c ∗ lands d c) := by
  unfold use raw lands spare rights landing
  iintro ⟨⟨Hp, ⟨R₀, R₁⟩, ⟨A₀, A₁⟩, ⟨S₀, S₁⟩, ⟨O₀, O₁⟩⟩, ⟨⟨⟨U₁, #V₁⟩, ⟨U₂, #V₂⟩⟩, ⟨⟨U₃, #V₃⟩, ⟨U₄, #V₄⟩⟩⟩⟩
  isplitl [Hp A₀ A₁ O₀ O₁ U₁ U₂ U₃ U₄]
  · isplitl [Hp]; · iexact Hp
    isplitl [A₀ O₀ U₁ U₃]
    · isplitl [A₀ O₀]
      · isplitl [A₀] <;> iassumption
      isplitl [U₁] <;> iassumption
    isplitl [A₁ O₁]
    · isplitl [A₁] <;> iassumption
    isplitl [U₂] <;> iassumption
  isplitl [R₀ S₁]
  · isplitl [R₀]
    · isplitl [R₀]; · iexact R₀
      iexact V₁
    isplitl [S₁]; · iexact S₁
    iexact V₄
  · isplitl [R₁]
    · isplitl [R₁]; · iexact R₁
      iexact V₂
    isplitl [S₀]; · iexact S₀
    iexact V₃

theorem start_of : iprop((∃ X : Full F, owns (d : Thread nD τ) bufs.out fullShare X) ∗ scratch d ∗ opened d ∗ dealt d ∗ owe d (O₀ d)) ⊢ started (F := F) d := by
  unfold scratch dealt started
  iintro ⟨⟨%Xo, Ho⟩, ⟨⟨%Xp, Hp⟩, ⟨%X₁, H₁⟩, ⟨%Xa, Ha⟩, ⟨%X₂, H₂⟩⟩, Hop, ⟨Hde, ⟨Hb, Hbp⟩, Hbr, Hf⟩, HO⟩
  ihave Ho := (cut d bufs.out Xo) $$ Ho
  ihave Hp := (cut d bufs.p Xp) $$ Hp
  ihave H₁ := (cut d bufs.r₁ X₁) $$ H₁
  ihave Ha := (cut d bufs.a Xa) $$ Ha
  ihave H₂ := (cut d bufs.r₂ X₂) $$ H₂
  ihave HU := (use_of d) $$ [Hop Hde]
  · isplitl [Hop] <;> iassumption
  icases HU with ⟨HU, Hfp, Hfr⟩
  have hall : iprop(((bigSep Finset.univ fun c : Fin 8 => iprop(anyAt (F := F) bufs.p d c 0 ∗ anyAt bufs.p d c 1)) ∗ (bigSep Finset.univ fun c : Fin 8 => iprop(anyAt bufs.r₁ d c 0 ∗ anyAt bufs.r₁ d c 1))
      ∗ (bigSep Finset.univ fun c : Fin 8 => iprop(anyAt bufs.a d c 0 ∗ anyAt bufs.a d c 1)) ∗ (bigSep Finset.univ fun c : Fin 8 => iprop(anyAt bufs.r₂ d c 0 ∗ anyAt bufs.r₂ d c 1))
      ∗ (bigSep Finset.univ fun c : Fin 8 => iprop(anyAt bufs.out d c 0 ∗ anyAt bufs.out d c 1))) ∗ (bigSep Finset.univ fun x : Fin 2 × Fin 8 × Fin 2 => use d x.1 x.2.1 x.2.2))
      ⊢ iprop((bigSep Finset.univ fun c : Fin 8 => raw (F := F) d c) ∗ bigSep Finset.univ fun c : Fin 8 => lands d c) := by
    rw [by_round (fun t c s => use (F := F) d t c s), ← two_of, ← two_of, ← two_of, ← two_of, ← two_of, ← two_of, ← two_of]
    exact bigSep_mono fun c _ => arrange d c
  ihave HC := hall $$ [Hp H₁ Ha H₂ Ho HU]
  · isplitr [HU]
    · isplitl [Hp]; · iexact Hp
      isplitl [H₁]; · iexact H₁
      isplitl [Ha]; · iexact Ha
      isplitl [H₂] <;> iassumption
    iexact HU
  icases HC with ⟨HR, HL⟩
  isplitl [HR]; · iexact HR
  isplitl [HL Hfr]
  · isplitl [HL] <;> iassumption
  isplitl [Hb Hbp Hbr]
  · isplitl [Hb Hbp]
    · iapply (invite_meeting d barS)
      isplitl [Hb] <;> iassumption
    iexact Hbr
  isplitl [Hf Hfp]
  · iapply (invite_meeting d finS)
    isplitl [Hf] <;> iassumption
  iexact HO

/-! ## And back -/

/-- A cell that has had its round is closed at zero. -/
theorem close_cell (k : Cell) : iprop(always P K ∗ atPos ER (cellAt d k) (0 + 1) ∅ 0) ⊢ (|={Set.univ}=> semVal (cellAt d k) 0 : sProp 𝕄) := by
  unfold always
  iintro ⟨⟨#HI, -⟩, H⟩
  iapply (Rounds.cell_close ER (rd P) (g := cellAt d k) (Set.mem_univ (K (cellAt d k))) id (duties_later P (cellAt d k)))
  isplitr
  · iapply (invs_at P K d k); iexact HI
  iexact H

/-- All of a device's cells past their rounds, -/
def spent : sProp 𝕄 := bigSep Finset.univ fun k : Cell => atPos ER (cellAt d k) (0 + 1) ∅ 0
/-- and closed. -/
def closed : sProp 𝕄 := bigSep Finset.univ fun k : Cell => semVal (cellAt d k) 0

theorem close_all : iprop(always P K ∗ spent d) ⊢ (|={Set.univ}=> closed d : sProp 𝕄) := by
  unfold spent closed
  refine BIBase.Entails.trans ?_ (bigSep_fupd Finset.univ fun k : Cell => (semVal (cellAt d k) 0 : sProp 𝕄))
  exact bigSep_with_persistent fun k _ => close_cell P K d k

/-- What is left of the blocks. -/
def pasted : sProp 𝕄 := iprop(owns (d : Thread nD τ) bufs.out fullShare (glued (sum2 P d)) ∗ scratch d)

theorem scatter (c : Fin 8) : pairAt P d 4 c
    ⊢ iprop(((holds bufs.p d c 0 (P d c 0) ∗ holds bufs.p d c 1 (P d c 1)) ∗ (holds bufs.r₁ d c 0 (P (part 0 d) c 0) ∗ holds bufs.r₁ d c 1 (P (part 1 d) c 1))
        ∗ (holds bufs.a d c 0 (sum1 P d c 0) ∗ holds bufs.a d c 1 (sum1 P d c 1)) ∗ (holds bufs.r₂ d c 0 (sum1 P (part 1 d) c 0) ∗ holds bufs.r₂ d c 1 (sum1 P (part 0 d) c 1))
        ∗ (holds bufs.out d c 0 (sum2 P d c 0) ∗ holds bufs.out d c 1 (sum2 P d c 1))) ∗ ((past d 0 c 0 ∗ past d 0 c 1) ∗ (past d 1 c 0 ∗ past d 1 c 1))) := by
  simp only [pairAt, item]
  iintro ⟨⟨⟨P₀, R₀, U₀⟩, A₀, S₀, W₀, O₀⟩, ⟨⟨P₁, R₁, U₁⟩, A₁, S₁, W₁, O₁⟩⟩
  isplitr [U₀ U₁ W₀ W₁]
  · isplitl [P₀ P₁]
    · isplitl [P₀] <;> iassumption
    isplitl [R₀ R₁]
    · isplitl [R₀] <;> iassumption
    isplitl [A₀ A₁]
    · isplitl [A₀] <;> iassumption
    isplitl [S₀ S₁]
    · isplitl [S₀]; · iexact S₀
      iexact S₁
    isplitl [O₀] <;> iassumption
  isplitl [U₀ U₁]
  · isplitl [U₀] <;> iassumption
  isplitl [W₀] <;> iassumption

theorem spent_eq : spent (F := F) d = iprop((((bigSep Finset.univ fun x : Fin 2 × Fin 8 × Fin 2 => atPos ER (sndCell d x.1 x.2.1 x.2.2) (0 + 1) ∅ 0)
      ∗ bigSep Finset.univ fun x : Fin 2 × Fin 8 × Fin 2 => atPos ER (rcvCell d x.1 x.2.1 x.2.2) (0 + 1) ∅ 0) ∗ atPos ER (finCell d) (0 + 1) ∅ 0) ∗ atPos ER (barCell d) (0 + 1) ∅ 0) := by
  unfold spent
  rw [bigSep_univ_sum, by_own, show (Finset.univ : Finset Unit) = {()} from rfl, bigSep_singleton]
  rfl

theorem spent_of : iprop((bigSep Finset.univ fun x : Fin 2 × Fin 8 × Fin 2 => past (F := F) d x.1 x.2.1 x.2.2) ∗ atPos ER (barCell d) (0 + 1) ∅ 0 ∗ atPos ER (finCell d) (0 + 1) ∅ 0) ⊢ spent d := by
  rw [spent_eq]
  unfold past
  rw [two_of]
  iintro ⟨⟨Hs, Hr⟩, Hb, Hf⟩
  isplitr [Hb]
  · isplitl [Hs Hr]
    · isplitl [Hs]; · iexact Hs
      iexact Hr
    iexact Hf
  · iexact Hb

theorem end_of : ended P d ⊢ iprop(pasted P d ∗ spent d ∗ owe d 0) := by
  have hall : (bigSep Finset.univ fun c : Fin 8 => pairAt P d 4 c)
      ⊢ iprop(((bigSep Finset.univ fun c : Fin 8 => iprop(holds bufs.p d c 0 (P d c 0) ∗ holds bufs.p d c 1 (P d c 1)))
        ∗ (bigSep Finset.univ fun c : Fin 8 => iprop(holds bufs.r₁ d c 0 (P (part 0 d) c 0) ∗ holds bufs.r₁ d c 1 (P (part 1 d) c 1)))
        ∗ (bigSep Finset.univ fun c : Fin 8 => iprop(holds bufs.a d c 0 (sum1 P d c 0) ∗ holds bufs.a d c 1 (sum1 P d c 1)))
        ∗ (bigSep Finset.univ fun c : Fin 8 => iprop(holds bufs.r₂ d c 0 (sum1 P (part 1 d) c 0) ∗ holds bufs.r₂ d c 1 (sum1 P (part 0 d) c 1)))
        ∗ (bigSep Finset.univ fun c : Fin 8 => iprop(holds bufs.out d c 0 (sum2 P d c 0) ∗ holds bufs.out d c 1 (sum2 P d c 1))))
        ∗ (bigSep Finset.univ fun x : Fin 2 × Fin 8 × Fin 2 => past d x.1 x.2.1 x.2.2)) := by
    rw [by_round (fun t c s => past (F := F) d t c s), ← two_of, ← two_of, ← two_of, ← two_of, ← two_of, ← two_of]
    exact bigSep_mono fun c _ => scatter P d c
  unfold ended pasted scratch
  iintro ⟨H, Hb, Hf, HO⟩
  ihave H := hall $$ H
  icases H with ⟨⟨Hp, H₁, Ha, H₂, Ho⟩, HU⟩
  isplitl [Hp H₁ Ha H₂ Ho]
  · isplitl [Ho]; · iapply (paste d bufs.out (sum2 P d)); iexact Ho
    isplitl [Hp]; · iexists _; iapply (paste d bufs.p (P d)); iexact Hp
    isplitl [H₁]; · iexists _; iapply (paste d bufs.r₁ (fun c s => P (part s d) c s)); iexact H₁
    isplitl [Ha]; · iexists _; iapply (paste d bufs.a (sum1 P d)); iexact Ha
    iexists _; iapply (paste d bufs.r₂ (fun c s => sum1 P (part (s + 1) d) c s)); iexact H₂
  isplitl [HU Hb Hf]
  · iapply (spent_of d)
    isplitl [HU]; · iexact HU
    isplitl [Hb] <;> iassumption
  iexact HO

/-! ## The kernel, buffers and cells whole -/

/-- What a program ends with may still be updated. -/
theorem Tr.close {α : Type} {A : sProp 𝕄} {p : KProg F α} {B C : α → sProp 𝕄} (h : Tr P K d A p B)
    (hB : ∀ x, iprop(always P K ∗ B x) ⊢ (|={Set.univ}=> C x : sProp 𝕄)) : Tr P K d A p C := by
  have h' : Tr P K d A (p >>= fun x => Prog.ret x) C := h.bind fun x => by
    unfold Tr runs
    rw [wp_ret]
    exact hB x
  rwa [show (p >>= fun x => Prog.ret x) = p from bind_pure p] at h'

/-- From whole buffers, all cells unused and the launch's deal to the sum in the result, all cells closed and nothing owed. -/
theorem whole_rule : Tr (val A) K d
    iprop((weights d (A d) ∗ kvs d (A d).k (A d).v) ∗ (∃ X : Full F, owns (d : Thread nD τ) bufs.out fullShare X) ∗ scratch d ∗ opened d ∗ dealt d ∗ owe d (O₀ d))
    (kern bufs)
    (fun _ => iprop((weights d (A d) ∗ kvs d (A d).k (A d).v) ∗ pasted (val A) d ∗ closed d ∗ owe d 0)) := by
  refine Tr.close (val A) K d (Tr.pre ?_ (kern_rule A K d)) fun _ => ?_
  · iintro ⟨⟨Hw, Hk⟩, H⟩
    isplitl [Hw]; · iexact Hw
    isplitl [Hk]; · iexact Hk
    iapply (start_of d); iexact H
  · iintro ⟨#HA, Hw, Hk, He⟩
    ihave He := (end_of (val A) d) $$ He
    icases He with ⟨Hp, Hs, HO⟩
    imod (close_all (val A) K d) $$ [Hs] with Hc
    · isplitr; · iexact HA
      iexact Hs
    imodintro
    isplitl [Hw Hk]
    · isplitl [Hw] <;> iassumption
    isplitl [Hp]; · iexact Hp
    isplitl [Hc] <;> iassumption

end Cert.KernelIdeal.Butterfly

end
-- ==== Proof.Region.lean ====
/- The kernel as the launch runs it on one device: what its windows hold before and after, what it is given to
   start with, and what it gives back. -/
module

public import proofs.«01_k».proof.Proof.Whole
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

@[expose] public section

set_option maxRecDepth 16384

noncomputable section

namespace Cert.KernelIdeal.Butterfly

open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The arrays -/

/-- What device `d`'s program is given: its own arrays once the host has prepared them. -/
def ins (d : Dev nD) : Ins F where
  x := V1 m d main_v19
  wq := V1 m d main_arg1
  k := V1 m d main_v11
  v := V1 m d main_v18
  wo := V1 m d main_arg4

/-- What it leaves in the result. -/
def res (d : Dev nD) : Full F := glued (sum2 (val (ins m)) d)

/-- The contents the one call leaves, as the host operations after it take them. -/
def outs : Outs (F := F) := fun _ r c => Function.update (V1 m c) main_v20 (res m c) r

/-- The array of window `w` on device `c`, -/
def arrOf (c : Dev nD) (w : Fin cfg0.W) : Buf (Elt F) ((cfg0.win w).arr.view.loc (c : Thread nD τ)) := V1 m c (arrRef spec0 w)

theorem owns_any (d : Dev nD) (b : Ref sig .tc) : (iprop(∃ f : Buf (Elt F) ((d : Thread nD τ).loc b), ((d : Thread nD τ).loc b) ↦{fullShare} f) : sProp 𝕄)
    = iprop(∃ f : b.ty.Contents (Elt F), owns (d : Thread nD τ) (Memref.whole b) fullShare f) := by
  simp only [owns_whole]

/-- The scoped buffers that stage no window are the kernel's four. -/
theorem scratch_eq (c : Dev nD) : (Pipeline.scopedRest (Ix := Unit) (Name := ℕ) (U := UU) (Lvl := ℕ) (Val := Elt F) spec0 c : sProp 𝕄) = scratch c := by
  rw [scopedRest0_eq, owns_any, owns_any, owns_any, owns_any]
  rfl

/-- A window over a whole array reads what the array holds. -/
theorem read_win {s : Shape} {e : EltTy} {cs : CoreSpace} (arr : Memref sig .tc .hbm s e) (o y : Bool) (st : Memref sig .tc (.core cs) ⟨s.rank, s.size⟩ e)
    (sem : DmaSem sig) (h₁ : arr.IsWhole) (h₂ : st.IsWhole) (f : arr.view.ty.Contents (Elt F)) :
    ((Window.whole arr o y st sem h₁ h₂).blk t0_0).view.read (Elt F) f = arr.view.read (Elt F) f := by
  funext i
  rw [View.read_apply, View.read_apply]
  have : ((Window.whole arr o y st sem h₁ h₂).blk t0_0).view.emb i = arr.view.emb i := by
    show arr.view.emb _ = arr.view.emb i
    congr 1
    funext a
    refine Fin.ext ?_
    show 0 * _ + 1 * (i a).val = _
    omega
  rw [this]

/-! ## Before, between and after -/

/-- What a device keeps from the launch to the call. -/
def kept (c : Dev nD) : sProp 𝕄 := iprop(∃ K, invs (val (ins m)) K ∗ (bigSep Finset.univ fun k : Own => openTok ER ((c : Thread nD τ), osem k)) ∗ dealt c)
/-- The same once the call's own cells are in use. -/
def armed (c : Dev nD) : sProp 𝕄 := iprop(∃ K, always (val (ins m)) K ∗ opened c ∗ dealt c)
/-- The call's own cells at zero, -/
def ownZero (c : Dev nD) : sProp 𝕄 := bigSep Finset.univ fun k : Own => semVal ((c : Thread nD τ), osem k) 0

/-- What a device holds beside its windows before the call's one point (`n = 0`) and after it, -/
def state (c : Dev nD) (n : ℕ) : sProp 𝕄 := iprop((if n = 0 then armed m c else iprop(ownZero c ∗ semVal (barCell c) 0)) ∗ scratch c ∗ ∃ r, prngReg c r)
/-- and what it owes. -/
def debt (c : Dev nD) (n : ℕ) : CellTallies nD τ sig Unit := if n = 0 then O₀ c else 0

def dats (c : Dev nD) : Dat τ (Elt F) Unit ℕ UU ℕ cfg0 c where
  A w := arrOf m c w
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => res m c
  Φ t := state m c t.val
  q _ := fullShare
  owed t := debt c t.val

def pdats (p : Fin 1) (c : Dev nD) : Dat τ (Elt F) Unit ℕ UU ℕ (cfgs p) c := match p with
  | ⟨0, _⟩ => dats m c

variable (c : Dev nD)

theorem before_x (d) : (dats m c).before (0 : Fin 6) t0_0 d = (ins m c).x :=
  (Dat.before_fetched _ _ _ (fetch0_0 _) d).trans (Eq.trans (b := (win0_0.blk t0_0).view.read (Elt F) (ins m c).x) rfl (read_win (Memref.whole main_v19) _ _ _ _ _ _ _))
theorem before_wq (d) : (dats m c).before (1 : Fin 6) t0_0 d = (ins m c).wq :=
  (Dat.before_fetched _ _ _ (fetch0_1 _) d).trans (Eq.trans (b := (win0_1.blk t0_0).view.read (Elt F) (ins m c).wq) rfl (read_win (Memref.whole main_arg1) _ _ _ _ _ _ _))
theorem before_k (d) : (dats m c).before (2 : Fin 6) t0_0 d = (ins m c).k :=
  (Dat.before_fetched _ _ _ (fetch0_2 _) d).trans (Eq.trans (b := (win0_2.blk t0_0).view.read (Elt F) (ins m c).k) rfl (read_win (Memref.whole main_v11) _ _ _ _ _ _ _))
theorem before_v (d) : (dats m c).before (3 : Fin 6) t0_0 d = (ins m c).v :=
  (Dat.before_fetched _ _ _ (fetch0_3 _) d).trans (Eq.trans (b := (win0_3.blk t0_0).view.read (Elt F) (ins m c).v) rfl (read_win (Memref.whole main_v18) _ _ _ _ _ _ _))
theorem before_wo (d) : (dats m c).before (4 : Fin 6) t0_0 d = (ins m c).wo :=
  (Dat.before_fetched _ _ _ (fetch0_4 _) d).trans (Eq.trans (b := (win0_4.blk t0_0).view.read (Elt F) (ins m c).wo) rfl (read_win (Memref.whole main_arg4) _ _ _ _ _ _ _))

/-- The result's array after the call. -/
theorem after_out : (dats m c).arrAt (5 : Fin 6) cfg0.N = res m c := by
  refine (dats m c).arrAt_eq_of_cover (5 : Fin 6) (res m c) (fun t _ => ?_) fun i => ⟨t0_0, flush0_5 _, ?_⟩
  · rw [show t = t0_0 from fin_N0 t]
    exact (read_win (F := F) (Memref.whole main_v20) true false (stage0_5 0) (sem0_5 0) (Memref.isWhole_whole _) (hstage0_5 0) (res m c)).symm
  · refine Finset.mem_map.mpr ⟨i, Finset.mem_univ _, ?_⟩
    funext a
    refine Fin.ext ?_
    show 0 * _ + 1 * (i a).val = _
    omega

/-- The other arrays stay. -/
theorem after_in (w : Fin 6) (h : (win0 w).isOut = false) : (dats m c).arrAt w cfg0.N = arrOf m c w := (dats m c).arrAt_in w h _

/-! ## What the device owes, before and after -/

theorem owed_at (t : Fin (cfg0.N + 1)) : (dats m c).owed t = debt c t.val := rfl
theorem state_at (t : Fin (cfg0.N + 1)) : (dats m c).Φ t = state m c t.val := rfl

theorem owe_of (t : Fin (cfg0.N + 1)) (O : CellTallies nD τ sig Unit) (h : (dats m c).owed t = O) : (dats m c).owesAt () t ⊢ owe (F := F) c O := by
  unfold Dat.owesAt owesWithin owe
  rw [h]
  iintro ⟨%W, -, H⟩
  iexists W; iexact H
theorem of_owe (t : Fin (cfg0.N + 1)) (O : CellTallies nD τ sig Unit) (h : (dats m c).owed t = O) : owe (F := F) c O ⊢ (dats m c).owesAt () t := by
  unfold Dat.owesAt owesWithin owe Dat.bound
  rw [h]
  iintro ⟨%W, H⟩
  iexists W
  isplitr
  · ipureintro; exact fun _ _ => Or.inl trivial
  iexact H

theorem closed_eq : closed (F := F) c = iprop(ownZero c ∗ semVal (barCell c) 0) := by
  unfold closed ownZero
  rw [bigSep_univ_sum, show (Finset.univ : Finset Unit) = {()} from rfl, bigSep_singleton]
  rfl

/-! ## The body -/

theorem share_at (w : Fin 6) : (dats m c).share w = fullShare := by unfold Dat.share; split <;> rfl

/-- The windows' buffers, the inputs at what they hold and the result's as `o` says. -/
def staged (o : sProp 𝕄) : sProp 𝕄 :=
  iprop(owns (c : Thread nD τ) bufs.x fullShare (ins m c).x ∗ owns (c : Thread nD τ) bufs.wq fullShare (ins m c).wq
    ∗ owns (c : Thread nD τ) bufs.k fullShare (ins m c).k ∗ owns (c : Thread nD τ) bufs.v fullShare (ins m c).v
    ∗ owns (c : Thread nD τ) bufs.wo fullShare (ins m c).wo ∗ o)

/-- The kernel on what the launch hands over. -/
theorem run_at : iprop(state m c 0 ∗ owe c (O₀ c) ∗ staged m c iprop(∃ X : Full F, owns (c : Thread nD τ) bufs.out fullShare X))
    ⊢ runs c (kern bufs) (fun _ => iprop(state m c 1 ∗ owe c 0 ∗ staged m c (owns (c : Thread nD τ) bufs.out fullShare (res m c)))) := by
  have h (K : GSem nD τ sig → ℕ) : iprop(always (val (ins m)) K ∗ (opened c ∗ dealt c ∗ scratch c ∗ ∃ r, prngReg c r) ∗ owe c (O₀ c) ∗ staged m c iprop(∃ X : Full F, owns (c : Thread nD τ) bufs.out fullShare X))
      ⊢ runs c (kern bufs) (fun _ => iprop(state m c 1 ∗ owe c 0 ∗ staged m c (owns (c : Thread nD τ) bufs.out fullShare (res m c)))) := by
    refine Tr.conseq ((whole_rule (ins m) K c).sep iprop(∃ r, prngReg c r)) ?_ fun _ => ?_
    · unfold staged weights kvs
      iintro ⟨⟨Hop, Hd, Hs, Hr⟩, HO, Hx, Hq, Hk, Hv, Hw, Ho⟩
      isplitr [Hr]
      · isplitl [Hx Hq Hk Hv Hw]
        · isplitl [Hx Hq Hw]
          · isplitl [Hx]; · iexact Hx
            isplitl [Hq] <;> iassumption
          isplitl [Hk] <;> iassumption
        isplitl [Ho]; · iexact Ho
        isplitl [Hs]; · iexact Hs
        isplitl [Hop]; · iexact Hop
        isplitl [Hd] <;> iassumption
      · iexact Hr
    · unfold staged weights kvs state pasted
      rw [closed_eq, if_neg (by decide)]
      iintro ⟨⟨⟨⟨Hx, Hq, Hw⟩, Hk, Hv⟩, ⟨Ho, Hs⟩, Hc, HO⟩, Hr⟩
      isplitl [Hc Hs Hr]
      · isplitl [Hc]; · iexact Hc
        isplitl [Hs] <;> iassumption
      isplitl [HO]; · iexact HO
      isplitl [Hx]; · iexact Hx
      isplitl [Hq]; · iexact Hq
      isplitl [Hk]; · iexact Hk
      isplitl [Hv]; · iexact Hv
      isplitl [Hw]; · iexact Hw
      iexact Ho
  unfold state armed
  rw [if_pos rfl]
  iintro ⟨⟨⟨%K, #HA, Hop, Hd⟩, Hs, Hr⟩, HO, HS⟩
  iapply (h K)
  isplitr; · iexact HA
  isplitl [Hop Hd Hs Hr]
  · isplitl [Hop]; · iexact Hop
    isplitl [Hd]; · iexact Hd
    isplitl [Hs] <;> iassumption
  isplitl [HO] <;> iassumption

theorem body_obligation : BodyObligation (dats m c) (defs₀ (F := F)) 𝒱₀ () Set.univ := fun t => by
  rw [show t = t0_0 from fin_N0 t, bigSep_W0, bigSep_W0]
  show iprop(state m c 0 ∗ (dats m c).owesAt () t0_0.castSucc ∗ (∃ d, owns (c : Thread nD τ) bufs.x fullShare ((dats m c).before (0 : Fin 6) t0_0 d))
      ∗ (∃ d, owns (c : Thread nD τ) bufs.wq fullShare ((dats m c).before (1 : Fin 6) t0_0 d)) ∗ (∃ d, owns (c : Thread nD τ) bufs.k fullShare ((dats m c).before (2 : Fin 6) t0_0 d))
      ∗ (∃ d, owns (c : Thread nD τ) bufs.v fullShare ((dats m c).before (3 : Fin 6) t0_0 d)) ∗ (∃ d, owns (c : Thread nD τ) bufs.wo fullShare ((dats m c).before (4 : Fin 6) t0_0 d))
      ∗ (∃ d, owns (c : Thread nD τ) bufs.out fullShare ((dats m c).before (5 : Fin 6) t0_0 d)))
    ⊢ runs c (cc0__fused_body (F := F) bufs.x bufs.hx bufs.wq bufs.hwq bufs.k bufs.hk bufs.v bufs.hv bufs.wo bufs.hwo bufs.out bufs.hout
      bufs.p bufs.hp bufs.r₁ bufs.hr₁ bufs.a bufs.ha bufs.r₂ bufs.hr₂ bufs.snd bufs.rcv bufs.fin)
      (fun _ => iprop(state m c 1 ∗ (dats m c).owesAt () t0_0.succ ∗ staged m c (owns (c : Thread nD τ) bufs.out fullShare (res m c))))
  rw [body_kern]
  simp only [before_x, before_wq, before_k, before_v, before_wo]
  refine BIBase.Entails.trans ?_ ((run_at m c).trans (wp_mono frame (wpE (defs₀ (F := F)) 𝒱₀ (c : Thread nD τ) none) Set.univ fun _ => ?_))
  · iintro ⟨HS, HO, ⟨%_, Hx⟩, ⟨%_, Hq⟩, ⟨%_, Hk⟩, ⟨%_, Hv⟩, ⟨%_, Hw⟩, ⟨%d, Ho⟩⟩
    isplitl [HS]; · iexact HS
    isplitl [HO]; · iapply (owe_of m c t0_0.castSucc (O₀ c) rfl); iexact HO
    unfold staged
    isplitl [Hx]; · iexact Hx
    isplitl [Hq]; · iexact Hq
    isplitl [Hk]; · iexact Hk
    isplitl [Hv]; · iexact Hv
    isplitl [Hw]; · iexact Hw
    iexists _; iexact Ho
  · iintro ⟨HS, HO, H⟩
    isplitl [HS]; · iexact HS
    isplitl [HO]; · iapply (of_owe m c t0_0.succ 0 rfl); iexact HO
    iexact H

/-! ## The call as a segment -/

theorem osem_scoped : ∀ k : Own, (osem k).isScoped .tc = true := by decide
theorem osem_inj : Function.Injective osem := by
  intro k k' h
  match k, k' with
  | .inl (u, t, c, s), .inl (u', t', c', s') =>
    have h' : dmaAt u t c s = dmaAt u' t' c' s' := by injection h
    obtain ⟨h₁, h₂, h₃, h₄⟩ := code_at u t c s
    obtain ⟨h₁', h₂', h₃', h₄'⟩ := code_at u' t' c' s'
    rw [h'] at h₁ h₂ h₃ h₄
    rw [← h₁, ← h₂, ← h₃, ← h₄, h₁', h₂', h₃', h₄']
  | .inl _, .inr () => cases h
  | .inr (), .inl _ => cases h
  | .inr (), .inr () => rfl
theorem stage_low : ∀ (w : Fin 6) (s : Fin (spec0 w).nbuf), ((spec0 w).sem s).val < 6 := by decide

theorem own_facts : OwnSemFacts spec0 osem where
  isScoped := osem_scoped
  inj := osem_inj
  disj k w s h := by
    match k with
    | .inl (u, t, c, s') =>
      have h' : dmaAt u t c s' = (spec0 w).sem s := by injection h
      have := stage_low w s
      rw [← h'] at this
      exact absurd this (Nat.not_lt.mpr (Nat.le_add_right _ _))
    | .inr () => cases h

/-- A cell of the call's own is put to use. -/
theorem open_own (K : GSem nD τ sig → ℕ) (k : Own) : iprop(invs (val (ins m)) K ∗ (openTok ER ((c : Thread nD τ), osem k) ∗ semVal ((c : Thread nD τ), osem k) 0))
    ⊢ (|={Set.univ}=> iprop(atPos ER ((c : Thread nD τ), osem k) 0 ∅ 0 ∗ reached ER ((c : Thread nD τ), osem k) 0) : sProp 𝕄) := by
  iintro ⟨#HI, Ho, Hv⟩
  iapply (Rounds.cell_open ER (rd (val (ins m))) (g := cellAt c (.inl k)) (Set.mem_univ (K (cellAt c (.inl k)))))
  isplitr
  · iapply (invs_at (val (ins m)) K c (.inl k)); iexact HI
  isplitl [Ho]; · iexact Ho
  iexact Hv

theorem open_all (K : GSem nD τ sig → ℕ) : iprop(invs (val (ins m)) K ∗ bigSep Finset.univ fun k : Own => iprop(openTok ER ((c : Thread nD τ), osem k) ∗ semVal ((c : Thread nD τ), osem k) 0))
    ⊢ (|={Set.univ}=> opened c : sProp 𝕄) := by
  unfold opened
  refine BIBase.Entails.trans ?_ (bigSep_fupd Finset.univ fun k : Own => iprop(atPos ER ((c : Thread nD τ), osem k) 0 ∅ 0 ∗ reached ER ((c : Thread nD τ), osem k) 0))
  exact bigSep_with_persistent fun k _ => open_own m c K k

theorem arm : iprop(kept m c ∗ ownSems0 osem c ∗ levAts L lv) ⊢ (|={Set.univ}=> armed m c : sProp 𝕄) := by
  unfold kept armed ownSems0
  iintro ⟨⟨%K, #HI, Ho, Hd⟩, Hv, #Hl⟩
  imod (open_all m c K) $$ [Ho Hv] with H
  · isplitr; · iexact HI
    rw [two_of]
    isplitl [Ho]; · iexact Ho
    iexact Hv
  imodintro
  iexists K
  unfold always
  isplitr
  · isplitr; · iexact HI
    iexact Hl
  isplitl [H] <;> iassumption

theorem enter : iprop(scopedRest spec0 c ∗ (∃ r, prngReg c r) ∗ StableHlo.held (c.tc : Thread nD τ) ∅ (V1 m c) ∗ armed m c) ⊢ (dats m c).Φ 0 := by
  rw [show (dats m c).Φ 0 = state m c 0 from rfl, scratch_eq]
  unfold state
  rw [if_pos rfl]
  iintro ⟨Hs, Hr, -, HA⟩
  isplitl [HA]; · iexact HA
  isplitl [Hs] <;> iassumption

theorem leave : (dats m c).Φ (Fin.last cfg0.N)
    ⊢ iprop(scopedRest spec0 c ∗ (∃ r, prngReg c r) ∗ StableHlo.held (c.tc : Thread nD τ) ∅ (V2 m (outs m) c) ∗ ownSems0 osem c ∗ semVal (barCell c) 0) := by
  rw [show (dats m c).Φ (Fin.last cfg0.N) = state m c 1 from rfl, scratch_eq]
  unfold state ownZero ownSems0 StableHlo.held
  rw [if_neg (by decide), bigSep_empty]
  iintro ⟨⟨Ho, Hb⟩, Hs, Hr⟩
  isplitl [Hs]; · iexact Hs
  isplitl [Hr]; · iexact Hr
  isplitr; · iempintro
  isplitl [Ho] <;> iassumption

theorem owed_cut (t : Fin (cfg0.N + 1)) (g : GSem nD τ sig) (i : Unit) (h : 0 < (dats m c).owed t g i) : i ∈ L g ∧ (0 : ℕ) < lv g i := by
  rw [show (dats m c).owed t = debt c t.val from rfl] at h
  unfold debt at h
  split at h
  · obtain ⟨h₁, h₂⟩ := above_O₀ c g i h
    exact ⟨by unfold L; rw [if_pos h₁]; exact Finset.mem_singleton_self _, h₂⟩
  · exact absurd h (Nat.lt_irrefl 0)

theorem new_out : V2 m (outs m) c main_v20 = res m c := by
  show Function.update (V1 m c) (Proc.devRef .tc main_v20) (outs m 2 main_v20 c) (Proc.devRef .tc main_v20) = _
  rw [Function.update_self]
  show Function.update (V1 m c) (Proc.devRef .tc main_v20) (res m c) (Proc.devRef .tc main_v20) = _
  rw [Function.update_self]

theorem arr_in (w : Fin 6) (h : (win0 w).isOut = false) (hr : arrRef spec0 w ∉ ([main_v20] : List (Ref sig .tc))) :
    (dats m c).arrAt w cfg0.N = V2 m (outs m) c (arrRef spec0 w) := by
  rw [V2_of m (outs m) c _ hr]
  exact after_in m c w h

theorem arr_last (w : Fin 6) : (dats m c).arrAt w cfg0.N = V2 m (outs m) c (arrRef spec0 w) := by
  match w with
  | ⟨0, _⟩ => exact arr_in m c 0 rfl (by decide)
  | ⟨1, _⟩ => exact arr_in m c 1 rfl (by decide)
  | ⟨2, _⟩ => exact arr_in m c 2 rfl (by decide)
  | ⟨3, _⟩ => exact arr_in m c 3 rfl (by decide)
  | ⟨4, _⟩ => exact arr_in m c 4 rfl (by decide)
  | ⟨5, _⟩ => exact (after_out m c).trans (new_out m c).symm

abbrev others : Finset (DevRef τ sig) := Pipeline.ucRefs τ sig \ arrRefs (τ := τ) spec0

theorem others_same (b : DevRef τ sig) (hb : b ∈ others \ ∅) : V2 m (outs m) c b = V1 m c b := by
  refine Function.update_of_ne (fun h => ?_) _ _
  subst h
  exact absurd hb (by decide)

set_option backward.isDefEq.respectTransparency.types false in
/-- The call. -/
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) (launch0.toP) rfl (fun c => (body_obligation m c).loose)
    (fun _ => 0) O₀ (fun c => (zero_add _).symm) (fun c => rfl) (fun _ => rfl) (fun c w => share_at m c w)
    (V1 m) (V2 m (outs m)) (fun c b hb => others_same m c b hb)
    (kept m) (fun c => semVal (barCell c) 0) (armed m) (fun c => semVal (barCell c) 0) (arm m) (enter m) (leave m)
    (fun c => by iintro H; imodintro; iexact H)
    (fun _ => 0)
    ⟨fun c w s => by rw [L_tc]; exact Finset.mem_singleton_self _,
      fun c w s => le_of_eq (if_pos (lt_trans (stage_low w s) (by decide))), fun c t g i h => owed_cut m c t g i h⟩
    (fun _ => iprop(emp))
    (fun _ w => rfl) (fun c w => arr_last m c w)

end Cert.KernelIdeal.Butterfly

end
-- ==== Proof.Deal.lean ====
module

public import proofs.«01_k».proof.Proof.Region

/-! # The launch: what every device is dealt

The cells' records are allocated in one step for all devices. A device's cells start with the tokens of what is paid into them; each token then goes to the
device that pays. -/

@[expose] public section

set_option maxRecDepth 16384

noncomputable section

namespace Cert.KernelIdeal.Butterfly

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Cells and tokens -/

theorem osem_ne_bar (k : Own) : osem k ≠ .reg barS := by
  match k with
  | .inl (u, t, c, s) => intro h; cases h
  | .inr () => intro h; exact fin_ne_bar (by injection h)

theorem devCell_inj {κ : Type} (f : κ → SemLoc sig) (hf : Function.Injective f) :
    Function.Injective fun ck : Dev nD × κ => (((ck.1 : Thread nD τ), f ck.2) : GSem nD τ sig) := fun _ _ h =>
  Prod.ext (congrArg (fun g : GSem nD τ sig => g.1.1) h) (hf (congrArg Prod.snd h))

def barEmb : Dev nD ↪ GSem nD τ sig := ⟨fun c => barCell c, fun _ _ h => congrArg (fun g : GSem nD τ sig => g.1.1) h⟩
def ownEmb : Dev nD × Own ↪ GSem nD τ sig := ⟨_, devCell_inj osem osem_inj⟩

/-- The first meetings' cells, and all others. -/
def barCells : Finset (GSem nD τ sig) := Finset.univ.map barEmb
def ownCells : Finset (GSem nD τ sig) := Finset.univ.map ownEmb

theorem bar_own : Disjoint barCells ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The payments into one device's cells: each copy's two, and each meeting's two. -/
abbrev Pay : Type := (Fin 2 × Fin 2 × Fin 8 × Fin 2) ⊕ (Fin 2 × Fin 2)
abbrev spot (i : Fin 2) : Sem sig := if i = 0 then barS else finS
def paySem : Pay → SemLoc sig
  | .inl q => osem (.inl q)
  | .inr (i, _) => .reg (spot i)
def payDuty : Pay → Fin 2
  | .inl _ => 0
  | .inr (_, k) => k
/-- Who makes it. -/
def payer : Pay → (Dev nD ≃ Dev nD)
  | .inl (u, t, _, s) => if u = 0 then Equiv.refl _ else partner (s + t)
  | .inr (_, k) => partner k

theorem spot_inj : ∀ i i' : Fin 2, spot i = spot i' → i = i' := by decide

theorem pay_inj : Function.Injective fun k : Pay => (paySem k, payDuty k) := by
  intro k k' h
  have h₁ : paySem k = paySem k' := congrArg Prod.fst h
  have h₂ : payDuty k = payDuty k' := congrArg Prod.snd h
  match k, k' with
  | .inl q, .inl q' => exact congrArg Sum.inl (Sum.inl.inj (osem_inj h₁))
  | .inl (u, t, c, s), .inr _ => cases h₁
  | .inr _, .inl (u, t, c, s) => cases h₁
  | .inr (i, d), .inr (i', d') =>
    have e₁ : i = i' := spot_inj i i' (by injection h₁)
    have e₂ : d = d' := h₂
    rw [e₁, e₂]

def payEmb : Dev nD × Pay ↪ GSem nD τ sig × ℕ × Fin 2 :=
  ⟨fun ck => (((ck.1 : Thread nD τ), paySem ck.2), 0, payDuty ck.2), fun _ _ h =>
    Prod.ext (congrArg (fun x : GSem nD τ sig × ℕ × Fin 2 => x.1.1.1) h)
      (pay_inj (Prod.ext (congrArg (fun x : GSem nD τ sig × ℕ × Fin 2 => x.1.2) h) (congrArg (fun x : GSem nD τ sig × ℕ × Fin 2 => x.2.2) h)))⟩
def pays : Finset (GSem nD τ sig × ℕ × Fin 2) := Finset.univ.map payEmb

/-- The launch's ghost state. -/
def u₀ : UU :=
  (initOf (Pipeline.cells (Pipeline.pin (pcfgs (F := F)) adm) cellOf_inj) (Pipeline.launchToks (Pipeline.pin (pcfgs (F := F)) adm) cellOf_inj),
    launchOf barCells ownCells pays)

/-- All of it waits on one device. -/
def parked (X : sProp 𝕄) (c : Dev nD) : sProp 𝕄 := if c = 0 then X else iprop(emp)
theorem parked_all (X : sProp 𝕄) : bigSep Finset.univ (parked (F := F) X) = X := by
  rw [one_of _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf barCells ownCells pays)))

/-! ## Every token to its payer -/

def tok (c : Dev nD) (k : Pay) : sProp 𝕄 := dutyTok ER ((c : Thread nD τ), paySem k) 0 (payDuty k)

theorem pays_eq : bigSep pays (fun x => (dutyTok ER x.1 x.2.1 x.2.2 : sProp 𝕄)) = bigSep Finset.univ fun c : Dev nD => bigSep Finset.univ fun k : Pay => tok c k := by
  unfold pays; rw [bigSep_map, bigSep_univ_prod]; rfl

/-- Payments by payee and by payer. -/
def around : Dev nD × Pay ≃ Dev nD × Pay where
  toFun x := (payer x.2 x.1, x.2)
  invFun x := ((payer x.2).symm x.1, x.2)
  left_inv x := Prod.ext ((payer x.2).symm_apply_apply x.1) rfl
  right_inv x := Prod.ext ((payer x.2).apply_symm_apply x.1) rfl

theorem pays_around : (bigSep Finset.univ fun c : Dev nD => bigSep Finset.univ fun k : Pay => (tok c k : sProp 𝕄))
    = bigSep Finset.univ fun c : Dev nD => bigSep Finset.univ fun k : Pay => tok (payer k c) k := by
  rw [← bigSep_univ_prod (fun x : Dev nD × Pay => (tok x.1 x.2 : sProp 𝕄)), bigSep_univ_equiv around (fun x : Dev nD × Pay => (tok x.1 x.2 : sProp 𝕄)), bigSep_univ_prod]
  rfl

/-- A device's tokens, put in order. -/
theorem toks_sort (c : Dev nD) : (bigSep Finset.univ fun k : Pay => (tok (payer k c) k : sProp 𝕄))
    = iprop((bigSep Finset.univ fun x : Fin 2 × Fin 8 × Fin 2 =>
        iprop(dutyTok ER (sndCell c x.1 x.2.1 x.2.2) 0 0 ∗ dutyTok ER (rcvCell (part (x.2.2 + x.1) c) x.1 x.2.1 x.2.2) 0 0))
      ∗ (dutyTok ER (barCell (part 0 c)) 0 0 ∗ dutyTok ER (barCell (part 1 c)) 0 1)
      ∗ (dutyTok ER (finCell (part 0 c)) 0 0 ∗ dutyTok ER (finCell (part 1 c)) 0 1)) := by
  have h₀ (x : Fin 2 × Fin 8 × Fin 2) : (tok (payer (.inl (0, x)) c) (.inl (0, x)) : sProp 𝕄) = dutyTok ER (sndCell c x.1 x.2.1 x.2.2) 0 0 := rfl
  have h₁ (x : Fin 2 × Fin 8 × Fin 2) : (tok (payer (.inl (1, x)) c) (.inl (1, x)) : sProp 𝕄) = dutyTok ER (rcvCell (part (x.2.2 + x.1) c) x.1 x.2.1 x.2.2) 0 0 := rfl
  have hm (k : Fin 2) : (tok (payer (.inr (0, k)) c) (.inr (0, k)) : sProp 𝕄) = dutyTok ER (barCell (part k c)) 0 k := rfl
  have hn (k : Fin 2) : (tok (payer (.inr (1, k)) c) (.inr (1, k)) : sProp 𝕄) = dutyTok ER (finCell (part k c)) 0 k := rfl
  rw [two_of, bigSep_univ_sum, bigSep_univ_prod, bigSep_univ_two, bigSep_univ_prod (fun b : Fin 2 × Fin 2 => (tok (payer (.inr b) c) (.inr b) : sProp 𝕄)),
    bigSep_univ_two (fun a : Fin 2 => bigSep Finset.univ fun b : Fin 2 => (tok (payer (.inr (a, b)) c) (.inr (a, b)) : sProp 𝕄)), bigSep_univ_two, bigSep_univ_two,
    bigSep_congr fun x _ => h₀ x, bigSep_congr fun x _ => h₁ x, hm, hm, hn, hn]
  rfl

/-! ## Credits -/

theorem cred_due (t : Fin 2) (k : Fin 8) (c : Dev nD) : (Pipeline.launchCred (fun d => due d t k) c : sProp 𝕄)
    ⊢ iprop(cred (tallyAt (rcvCell c t k 0) () N) ∗ cred (tallyAt (rcvCell c t k 1) () N)) := by
  unfold due
  rw [Pipeline.launchCred_add]
  exact BIClass.sep_mono (Pipeline.launchCred_tallyAt _ (part (0 + t)) (part (0 + t)) (part_part _) (part_part _) () N c)
    (Pipeline.launchCred_tallyAt _ (part (1 + t)) (part (1 + t)) (part_part _) (part_part _) () N c)

theorem cred_round (t : Fin 2) (c : Dev nD) : (Pipeline.launchCred (fun d => dueFrom d t 0) c : sProp 𝕄)
    ⊢ bigSep Finset.univ fun k : Fin 8 => iprop(cred (tallyAt (rcvCell c t k 0) () N) ∗ cred (tallyAt (rcvCell c t k 1) () N)) := by
  have e : (fun d => dueFrom d t 0) = fun d => ∑ k : Fin 8, due d t k := funext fun d => by
    unfold dueFrom
    exact Finset.sum_congr rfl fun k _ => if_pos (Nat.zero_le _)
  rw [e, Pipeline.launchCred_sum]
  exact bigSep_mono fun k _ => cred_due t k c

theorem cred_meet (S : Sem sig) (c : Dev nD) :
    (Pipeline.launchCred (fun d => tallyAt ((part 0 d : Thread nD τ), .reg S) () 1 + tallyAt ((part 1 d : Thread nD τ), .reg S) () 1) c : sProp 𝕄)
    ⊢ cred (tallyAt ((c : Thread nD τ), .reg S) () 2) := by
  rw [Pipeline.launchCred_add, ← tallyAt_add _ _ 1 1]
  refine BIBase.Entails.trans ?_ (cred_add _ _).2
  exact BIClass.sep_mono (Pipeline.launchCred_tallyAt _ (part 0) (part 0) (part_part _) (part_part _) () 1 c)
    (Pipeline.launchCred_tallyAt _ (part 1) (part 1) (part_part _) (part_part _) () 1 c)

/-- What a device may wait for. -/
def creds (c : Dev nD) : sProp 𝕄 :=
  iprop((bigSep Finset.univ fun x : Fin 2 × Fin 8 × Fin 2 => cred (tallyAt (rcvCell c x.1 x.2.1 x.2.2) () N))
    ∗ cred (tallyAt (barCell c) () 2) ∗ cred (tallyAt (finCell c) () 2))

theorem cred_both (c : Dev nD) : (bigSep Finset.univ fun x : Fin 2 × Fin 8 × Fin 2 => (cred (tallyAt (rcvCell c x.1 x.2.1 x.2.2) () N) : sProp 𝕄))
    = iprop((bigSep Finset.univ fun k : Fin 8 => iprop(cred (tallyAt (rcvCell c 0 k 0) () N) ∗ cred (tallyAt (rcvCell c 0 k 1) () N)))
      ∗ (bigSep Finset.univ fun k : Fin 8 => iprop(cred (tallyAt (rcvCell c 1 k 0) () N) ∗ cred (tallyAt (rcvCell c 1 k 1) () N)))) := by
  have h (t : Fin 2) : (bigSep Finset.univ fun y : Fin 8 × Fin 2 => (cred (tallyAt (rcvCell c t y.1 y.2) () N) : sProp 𝕄))
      = bigSep Finset.univ fun k : Fin 8 => iprop(cred (tallyAt (rcvCell c t k 0) () N) ∗ cred (tallyAt (rcvCell c t k 1) () N)) := by
    rw [bigSep_univ_prod]
    exact bigSep_congr fun k _ => bigSep_univ_two _
  rw [bigSep_univ_prod, bigSep_univ_two]
  exact congrArg₂ (fun a b : sProp 𝕄 => iprop(a ∗ b)) (h 0) (h 1)

theorem creds_of (c : Dev nD) : (Pipeline.launchCred O₀ c : sProp 𝕄) ⊢ creds c := by
  have e : (O₀ : Dev nD → CellTallies nD τ sig Unit) = fun d => (dueFin d + dueFrom d 0 0 + dueFrom d 1 0) + dueBar d := rfl
  unfold creds
  rw [e, Pipeline.launchCred_add (fun d => dueFin d + dueFrom d 0 0 + dueFrom d 1 0) dueBar, Pipeline.launchCred_add (fun d => dueFin d + dueFrom d 0 0) (fun d => dueFrom d 1 0),
    Pipeline.launchCred_add dueFin (fun d => dueFrom d 0 0), cred_both]
  iintro ⟨⟨⟨Hf, H₀⟩, H₁⟩, Hb⟩
  isplitl [H₀ H₁]
  · isplitl [H₀]
    · iapply (cred_round 0 c); iexact H₀
    · iapply (cred_round 1 c); iexact H₁
  isplitl [Hb]
  · iapply (cred_meet barS c); iexact Hb
  · iapply (cred_meet finS c); iexact Hf

/-! ## One device's share -/

/-- The records every device may consult. -/
def records (K : GSem nD τ sig → ℕ) : sProp 𝕄 :=
  iprop((bigSep (barCells ∪ ownCells) fun g => cellInv ER (rd (val (ins m))) (K g) g) ∗ bigSep barCells fun g => reached ER g 0)
instance records_persistent (K : GSem nD τ sig → ℕ) : BI.Persistent (records m K) := by unfold records; infer_instance

theorem cell_mem (d : Dev nD) (k : Cell) : cellAt d k ∈ (barCells ∪ ownCells : Finset (GSem nD τ sig)) := by
  match k with
  | .inl k => exact Finset.mem_union_right _ (Finset.mem_map_of_mem ownEmb (Finset.mem_univ (d, k)))
  | .inr () => exact Finset.mem_union_left _ (Finset.mem_map_of_mem barEmb (Finset.mem_univ d))

theorem invs_of (K : GSem nD τ sig → ℕ) : (bigSep (barCells ∪ ownCells) fun g => (cellInv ER (rd (val (ins m))) (K g) g : sProp 𝕄)) ⊢ invs (val (ins m)) K := by
  unfold invs
  classical
  have h : (bigSep (barCells ∪ ownCells) fun g => (cellInv ER (rd (val (ins m))) (K g) g : sProp 𝕄))
      ⊢ bigSep Finset.univ fun dk : Dev nD × Cell => cellInv ER (rd (val (ins m))) (K (cellAt dk.1 dk.2)) (cellAt dk.1 dk.2) := by
    refine BIBase.Entails.trans ?_ (bigSep_with_persistent (R := bigSep (barCells ∪ ownCells) fun g => (cellInv ER (rd (val (ins m))) (K g) g : sProp 𝕄))
      (Φ := fun _ : Dev nD × Cell => (BI.emp : sProp 𝕄)) (Ψ := fun dk => cellInv ER (rd (val (ins m))) (K (cellAt dk.1 dk.2)) (cellAt dk.1 dk.2)) fun dk _ => ?_)
    · rw [BI.bigSep_emp_const]
      iintro H
      isplitl [H]; · iexact H
      iempintro
    · refine BIBase.Entails.trans ?_ (bigSep_elim (Φ := fun g => (cellInv ER (rd (val (ins m))) (K g) g : sProp 𝕄)) (cell_mem dk.1 dk.2))
      iintro ⟨H, -⟩
      iexact H
  exact h

theorem begun (d : Dev nD) : (bigSep barCells fun g => (reached ER g 0 : sProp 𝕄)) ⊢ reached ER (barCell d) 0 :=
  bigSep_elim (Finset.mem_map_of_mem barEmb (Finset.mem_univ d))

/-- What is a device's alone. -/
def alone (c : Dev nD) : sProp 𝕄 :=
  iprop(atPos ER (barCell c) 0 ∅ 0 ∗ (bigSep Finset.univ fun k : Own => openTok ER ((c : Thread nD τ), osem k))
    ∗ bigSep Finset.univ fun k : Pay => tok (payer k c) k)

theorem kept_of (K : GSem nD τ sig → ℕ) (c : Dev nD) : iprop(records m K ∗ (alone c ∗ creds c)) ⊢ kept m c := by
  unfold records alone kept dealt deal invite creds
  rw [toks_sort, two_of Finset.univ (fun x : Fin 2 × Fin 8 × Fin 2 => (dutyTok ER (sndCell c x.1 x.2.1 x.2.2) 0 0 : sProp 𝕄)), two_of, two_of]
  iintro ⟨⟨#HI, #HR⟩, ⟨Ha, Ho, ⟨Hs, Hr⟩, ⟨Hb₀, Hb₁⟩, Hf₀, Hf₁⟩, Hc, Hcb, Hcf⟩
  iexists K
  isplitr; · iapply (invs_of m K); iexact HI
  isplitl [Ho]; · iexact Ho
  isplitl [Hs Hr Hc]
  · isplitl [Hs]; · iexact Hs
    isplitl [Hr]; · iexact Hr
    iexact Hc
  isplitl [Hb₀ Hb₁ Hcb Ha]
  · isplitl [Hb₀ Hb₁ Hcb]
    · isplitl [Hb₀]; · iexact Hb₀
      isplitl [Hb₁]; · iexact Hb₁
      iexact Hcb
    iexact Ha
  isplitr
  · isplitr
    · iapply (begun (F := F) (part 0 c)); iexact HR
    · iapply (begun (F := F) (part 1 c)); iexact HR
  isplitl [Hf₀]; · iexact Hf₀
  isplitl [Hf₁]; · iexact Hf₁
  iexact Hcf

/-! ## All devices at once -/

/-- A device before the call. -/
def E₀ (c : Dev nD) : sProp 𝕄 := iprop(kept m c ∗ (∃ r, prngReg c r) ∗ ∃ W, owes (c : Thread nD τ) (O₀ c) W)
/-- The part of it that is not the protocol's. -/
def aside (c : Dev nD) : sProp 𝕄 := iprop((∃ r, prngReg c r) ∗ ∃ W, owes (c : Thread nD τ) (O₀ c) W)

theorem unscopedSems_bar (c : Dev nD) : (unscopedSems0 c : sProp 𝕄) = semVal (barCell c) 0 := by
  unfold unscopedSems0
  rw [show (Finset.univ.filter fun sm : SemLoc sig => ¬(sm.isScoped .tc = true)) = {.reg barS} from by decide, bigSep_singleton]

theorem share_of (K : GSem nD τ sig → ℕ) (c : Dev nD) : iprop(records m K ∗ (alone c ∗ (creds c ∗ aside c))) ⊢ E₀ m c := by
  unfold E₀ aside
  iintro ⟨#HR, Ha, Hc, Hp⟩
  isplitl [Ha Hc]
  · iapply (kept_of m K c)
    isplitr; · iexact HR
    isplitl [Ha] <;> iassumption
  iexact Hp

theorem first_split (ρ : Dev nD → PrngReg) (c : Dev nD) :
    iprop(unscopedSems0 c ∗ owes (c : Thread nD τ) (O₀ c) ∅ ∗ Pipeline.launchCred O₀ c ∗ prngReg c (ρ c) ∗ G c)
      ⊢ (iprop((creds c ∗ aside c) ∗ (semVal (barCell c) 0 ∗ G c)) : sProp 𝕄) := by
  rw [unscopedSems_bar]
  unfold aside
  iintro ⟨Hs, HO, Hc, Hp, HG⟩
  isplitl [HO Hc Hp]
  · isplitl [Hc]; · iapply (creds_of c); iexact Hc
    isplitl [Hp]; · iexists (ρ c); iexact Hp
    iexists ∅; iexact HO
  isplitl [Hs] <;> iassumption

theorem bar_family (Φ : GSem nD τ sig → sProp 𝕄) : bigSep barCells Φ = bigSep Finset.univ fun c : Dev nD => Φ (barCell c) := bigSep_map _
theorem own_family (Φ : GSem nD τ sig → sProp 𝕄) : bigSep ownCells Φ = bigSep Finset.univ fun c : Dev nD => bigSep Finset.univ fun k : Own => Φ ((c : Thread nD τ), osem k) := by
  unfold ownCells; rw [bigSep_map, bigSep_univ_prod]; rfl

/-- The launch, for all devices at once. -/
theorem launch_all (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E₀ m) : sProp 𝕄) := by
  have h₁ : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop((creds c ∗ aside c) ∗ (semVal (barCell c) 0 ∗ G c)) : sProp 𝕄) := bigSep_mono fun c _ => first_split ρ c
  have h₂ (K : GSem nD τ sig → ℕ) : iprop(records m K ∗ bigSep Finset.univ fun c : Dev nD => iprop(alone c ∗ (creds c ∗ aside c)))
      ⊢ (bigSep Finset.univ (E₀ m) : sProp 𝕄) := bigSep_with_persistent fun c _ => share_of m K c
  iintro ⟨H, -⟩
  ihave H' := h₁ $$ H
  ihave H'' := (Entails.of_eq (two_of _ _ _)) $$ H'
  icases H'' with ⟨HB, H₃⟩
  ihave H₄ := (Entails.of_eq (two_of _ _ _)) $$ H₃
  icases H₄ with ⟨Hv, HG⟩
  ihave Hu := (show bigSep Finset.univ (G (F := F)) ⊢ BI.own (ER (launchOf barCells ownCells pays)) from Entails.of_eq (parked_all _)) $$ HG
  ihave Hv' := (Entails.of_eq (bar_family (F := F) (fun g => semVal g 0)).symm) $$ Hv
  imod (Rounds.fund_launch ER (rd (val (ins m))) bar_own (fun g _ h => h) pays) $$ [Hv' Hu] with ⟨%K, -, #Hinv, #Hr, Hat, Hopen, Htok⟩
  · isplitl [Hv'] <;> iassumption
  imodintro
  iapply (h₂ K)
  isplitr
  · unfold records
    isplitr; · iexact Hinv
    iexact Hr
  iapply (Entails.of_eq (two_of _ _ _).symm)
  isplitr [HB]
  · unfold alone
    iapply (Entails.of_eq (two_of _ _ _).symm)
    isplitl [Hat]; · iapply (Entails.of_eq (bar_family (F := F) (fun g => atPos ER g 0 ∅ 0))); iexact Hat
    iapply (Entails.of_eq (two_of _ _ _).symm)
    isplitl [Hopen]; · iapply (Entails.of_eq (own_family (F := F) (fun g => openTok ER g))); iexact Hopen
    iapply (Entails.of_eq (pays_eq.trans pays_around)); iexact Htok
  · iexact HB

end Cert.KernelIdeal.Butterfly

end
-- ==== Proof.Finish.lean ====
module

public import proofs.«01_k».proof.Proof.Deal

/-! # The whole program's run -/

@[expose] public section

set_option maxRecDepth 16384

noncomputable section

namespace Cert.KernelIdeal.Butterfly

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-- A device after the call. -/
def E₁ (c : Dev nD) : sProp 𝕄 := iprop(semVal (barCell c) 0 ∗ ∃ W, owes (c : Thread nD τ) (0 : CellTallies nD τ sig Unit) W)
/-- A device before and after the call, its buffers aside. -/
def between (i : Fin 2) (c : Dev nD) : sProp 𝕄 := if i = 0 then E₀ m c else E₁ c

theorem held_two (c : Dev nD) (W : Valuation τ sig (Elt F)) : (StableHlo.held (c : Thread nD τ) (Pipeline.ucRefs τ sig) W : sProp 𝕄)
    = iprop(StableHlo.held (c : Thread nD τ) (arrRefs (τ := τ) spec0) W ∗ StableHlo.held (c : Thread nD τ) others W) :=
  StableHlo.held_sub_split (c : Thread nD τ) (by decide) W

theorem region_pre (c : Dev nD) : iprop(StableHlo.held (c : Thread nD τ) (Pipeline.ucRefs τ sig) (V1 m c) ∗ E₀ m c) ⊢ (region m).pre c := by
  show _ ⊢ iprop(StableHlo.held (c : Thread nD τ) (arrRefs (τ := τ) spec0) (V1 m c) ∗ (∃ r, prngReg c r)
    ∗ (StableHlo.held (c : Thread nD τ) others (V1 m c) ∗ emp) ∗ kept m c ∗ ∃ Wd, owes (c : Thread nD τ) (0 + O₀ c) Wd)
  rw [held_two, zero_add]
  unfold E₀
  iintro ⟨⟨Ha, Ho⟩, Hk, Hp, HO⟩
  isplitl [Ha]; · iexact Ha
  isplitl [Hp]; · iexact Hp
  isplitl [Ho]
  · isplitl [Ho]; · iexact Ho
    iempintro
  isplitl [Hk]; · iexact Hk
  iexact HO

theorem region_post (c : Dev nD) : (region m).post c ⊢ iprop(StableHlo.held (c : Thread nD τ) (Pipeline.ucRefs τ sig) (V2 m (outs m) c) ∗ E₁ c) := by
  show iprop(StableHlo.held (c : Thread nD τ) (arrRefs (τ := τ) spec0) (V2 m (outs m) c) ∗ (∃ r, prngReg c r)
    ∗ (StableHlo.held (c : Thread nD τ) others (V2 m (outs m) c) ∗ emp) ∗ semVal (barCell c) 0 ∗ ∃ Wd, owes (c : Thread nD τ) (0 : CellTallies nD τ sig Unit) Wd) ⊢ _
  rw [held_two]
  unfold E₁
  iintro ⟨Ha, -, ⟨Ho, -⟩, Hb, HO⟩
  isplitl [Ha Ho]
  · isplitl [Ha]; · iexact Ha
    iexact Ho
  isplitl [Hb]; · iexact Hb
  iexact HO

/-- The program's parts. -/
abbrev parts (c : Dev nD) : List (Seg (pcfgs (F := F)) adm (pdats m) () defs₀ 𝒱₀ L lv) := segs m (outs m) 𝒱₀ L lv (between m) () (pdats m) (region m) c

/-- What a final memory shows on device `c`. -/
def shows (c : Dev nD) (s : MemSt nD τ sig (Elt F)) : Prop :=
  s.mem ((c.tc : Thread nD τ).loc main_v21) = V3 m (outs m) c main_v21
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem shows_of (c : Dev nD) (s : MemSt nD τ sig (Elt F)) (h : ∀ b ∈ Pipeline.ucRefs τ sig, s.mem (((c : Thread nD τ).1, b)) = V3 m (outs m) c b) : shows m c s :=
  ⟨h (Proc.devRef .tc main_v21) (Finset.mem_filter.mpr ⟨StableHlo.devRef_mem_tcRefs main_v21, by decide⟩),
    (h (Proc.devRef .tc main_arg0) (Finset.mem_filter.mpr ⟨StableHlo.devRef_mem_tcRefs main_arg0, by decide⟩)).trans (V3_main_arg0 m (outs m) c),
    (h (Proc.devRef .tc main_arg1) (Finset.mem_filter.mpr ⟨StableHlo.devRef_mem_tcRefs main_arg1, by decide⟩)).trans (V3_main_arg1 m (outs m) c),
    (h (Proc.devRef .tc main_arg2) (Finset.mem_filter.mpr ⟨StableHlo.devRef_mem_tcRefs main_arg2, by decide⟩)).trans (V3_main_arg2 m (outs m) c),
    (h (Proc.devRef .tc main_arg3) (Finset.mem_filter.mpr ⟨StableHlo.devRef_mem_tcRefs main_arg3, by decide⟩)).trans (V3_main_arg3 m (outs m) c),
    (h (Proc.devRef .tc main_arg4) (Finset.mem_filter.mpr ⟨StableHlo.devRef_mem_tcRefs main_arg4, by decide⟩)).trans (V3_main_arg4 m (outs m) c)⟩

/-- What a device holds at launch and at the end. -/
def T₀ (c : Dev nD) : sProp 𝕄 := iprop(StableHlo.held (c : Thread nD τ) (Pipeline.ucRefs τ sig) (V0 m c) ∗ E₀ m c)
def Tₙ (c : Dev nD) : sProp 𝕄 := iprop(StableHlo.held (c : Thread nD τ) (Pipeline.ucRefs τ sig) (V3 m (outs m) c) ∗ semVal (barCell c) 0)

theorem held_at_launch (c : Dev nD) : (unscopedBufs c (fun b => m ((c.tc : Thread nD τ).loc b)) : sProp 𝕄) = StableHlo.held (c : Thread nD τ) (Pipeline.ucRefs τ sig) (V0 m c) :=
  Pipeline.unscopedBufs_held (Ix := Unit) (Name := ℕ) (U := UU) (Lvl := ℕ) c (V0 m c)

theorem init (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  rw [two_of]
  iintro ⟨⟨Hh, Hr⟩, Hl⟩
  imod (launch_all m ρ) $$ [Hr Hl] with HE
  · isplitl [Hr]; · iexact Hr
    iexact Hl
  imodintro
  unfold T₀
  rw [two_of]
  isplitl [Hh]
  · rw [bigSep_congr fun c _ => (held_at_launch m c).symm]; iexact Hh
  iexact HE

theorem parts_end (c : Dev nD) : iprop(StableHlo.held (c : Thread nD τ) (Pipeline.ucRefs τ sig) (V3 m (outs m) c) ∗ E₁ c)
    ⊢ (iprop(Tₙ m c ∗ ∃ W, owes (c : Thread nD τ) (0 : CellTallies nD τ sig Unit) W) : sProp 𝕄) := by
  unfold E₁ Tₙ
  iintro ⟨Hh, Hb, HO⟩
  isplitr [HO]
  · isplitl [Hh] <;> iassumption
  iexact HO

theorem finish (c : Dev nD) (s' : Phys nD τ sig (Elt F)) : iprop(Tₙ m c ∗ SI s')
    ⊢ (|={Set.univ}=> iprop(⌜shows m c s'.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨shows_of m c s'.mem h, by simpa using hb⟩
  · iexact HSI

theorem unscoped_bar : ∀ sm : SemLoc sig, sm.isScoped .tc = false → sm = .reg barS := by decide

set_option backward.isDefEq.respectTransparency.types false in
/-- From any memory with all counters at zero the program ends, its arguments as they were, the result as computed, every counter at zero. -/
theorem run_main (ρ : Dev nD → PrngReg) : θ_run (defs (F := F)) (onTc (τ := τ) (main (F := F))) ⟨m, fun _ => 0, ρ⟩
    (fun r => (∀ c : Dev nD, shows m c r.2) ∧ r.2.sem = fun _ => 0) :=
  Pipeline.θ_run_regions_kit_dev_sems (pcfgs (F := F)) adm (pdats m) () cellOf_inj EP defs₀ 𝒱₀ L lv m ρ main (parts m)
    (fun c Q => by
      rewrite [main_chain c, Seg.run_eq_chain,
        show (parts m c).map Seg.prog = [StableHlo.seq (hostOps0 c), Prog.lift (.customCall (Pipeline.entry 0) ()), StableHlo.seq hostOps1] from rfl]
      dsimp (config := { failIfUnchanged := false }) only
      exact .rfl)
    (fun c => by simp only [parts, segs, Seg.pipes_host, Seg.pipes_region, Seg.pipes_nil]; decide)
    O₀ L_of_ne G u₀
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, region_pre m c, region_post m c, parts_end m c⟩)
    (hinit := init m ρ)
    (QY := fun c s => shows m c s ∧ s.sem (barCell c) = 0)
    (hfin := finish m)
    (hQ := fun s h hs => ⟨fun c => (h c).1, sem_eq_zero hs fun c sm hsm => by
      obtain rfl := unscoped_bar sm hsm
      exact (h c).2⟩)

end Cert.KernelIdeal.Butterfly

end
-- ==== Proof.Frames.lean ====
module

public import proofs.«01_k».proof.Defs
public import proofs.«01_k».proof.Proof.Finish
public import proofs.«01_k».proof.Proof.Gen.Kernel
public import proofs.«01_k».proof.Proof.Gen.ReferenceIdeal.Run

/-! # The frames, and the named constant -/

@[expose] public section

set_option maxRecDepth 16384

noncomputable section

namespace Cert.Frames

open Idealize.ShloMosaic Idealize.ShloMosaic.TcCoe Idealize.SL.Sem

theorem kernelIdeal : Cert.quiescent_KernelIdeal := fun m ρ _ =>
  (θ_run Cert.KernelIdeal.defs _ _).mono (fun _ h => ⟨fun c => (h.1 c).2, h.2⟩) (Cert.KernelIdeal.Butterfly.run_main (F := Ideal) m ρ)

theorem reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

theorem preserves : Cert.preserves_Kernel_KernelIdeal := IdealRules.named_const.statement _ _ _ _ _ rfl

end Cert.Frames

end
-- ==== Proof.Bits.lean ====
module

public import proofs.«01_k».proof.Defs
public import proofs.«01_k».proof.Proof.Finish
public import proofs.«01_k».proof.Proof.Gen.Kernel

/-! # The printed kernel

With the named constant read as its own bits the two programs are the same. -/

@[expose] public section

set_option maxRecDepth 16384

noncomputable section

namespace Cert.Frames

open Idealize.ShloMosaic Idealize.ShloMosaic.TcCoe Idealize.SL.Sem

local instance asBits : Named Bits where
  named κ name {φ} b := FloatOps.ofBits (F := Bits) φ b

/-- The fused body is the same program in both. -/
theorem body_same : Cert.Kernel.cc0__fused_body (F := Bits) = Cert.KernelIdeal.cc0__fused_body (F := Bits) := rfl

theorem table_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | ⟨0, _⟩, (t, s) => exact congrArg (fun f => f (Cert.Kernel.win0_0.stage (s 0)) (Cert.Kernel.Facts₀.hstage0_0 0) (Cert.Kernel.win0_1.stage (s 1)) (Cert.Kernel.Facts₀.hstage0_1 0) (Cert.Kernel.win0_2.stage (s 2)) (Cert.Kernel.Facts₀.hstage0_2 0) (Cert.Kernel.win0_3.stage (s 3)) (Cert.Kernel.Facts₀.hstage0_3 0) (Cert.Kernel.win0_4.stage (s 4)) (Cert.Kernel.Facts₀.hstage0_4 0) (Cert.Kernel.win0_5.stage (s 5)) (Cert.Kernel.Facts₀.hstage0_5 0) (Memref.whole Cert.Kernel.cc0_scratch0) (Memref.isWhole_whole _) (Memref.whole Cert.Kernel.cc0_scratch1) (Memref.isWhole_whole _) (Memref.whole Cert.Kernel.cc0_scratch2) (Memref.isWhole_whole _) (Memref.whole Cert.Kernel.cc0_scratch3) (Memref.isWhole_whole _) Cert.Kernel.cc0_scratch4 Cert.Kernel.cc0_scratch5 Cert.Kernel.cc0_scoped0) body_same

theorem defs_same : Cert.Kernel.defs (F := Bits) = Cert.KernelIdeal.defs (F := Bits) :=
  congrArg (Pipeline.defs (Cert.KernelIdeal.pcfgs (F := Bits))) table_same

theorem main_same : Cert.Kernel.main (F := Bits) = Cert.KernelIdeal.main (F := Bits) := rfl

theorem run_same (s : MemSt Cert.KernelIdeal.nD Cert.KernelIdeal.τ Cert.KernelIdeal.sig (Elt Bits)) :
    θ_run (Cert.Kernel.defs (F := Bits)) (onTc (τ := Cert.Kernel.τ) (Cert.Kernel.main (F := Bits))) s
      = θ_run (Cert.KernelIdeal.defs (F := Bits)) (onTc (τ := Cert.KernelIdeal.τ) (Cert.KernelIdeal.main (F := Bits))) s :=
  congrArg₂ (fun (d : Defs Cert.KernelIdeal.nD Cert.KernelIdeal.τ Cert.KernelIdeal.sig (Elt Bits) (Pipeline.Sig Cert.KernelIdeal.Λ₀ (Fin 1) fun p => (Cert.KernelIdeal.pcfgs (F := Bits) p).Adm)) p =>
    θ_run d (onTc (τ := Cert.KernelIdeal.τ) p) s) defs_same main_same

theorem kernel : Cert.quiescent_Kernel := fun m ρ _ => by
  have h := Cert.KernelIdeal.Butterfly.run_main (F := Bits) m ρ
  refine (run_same ⟨m, fun _ => 0, ρ⟩).symm ▸ (θ_run Cert.KernelIdeal.defs _ _).mono (fun _ h => ⟨fun c => (h.1 c).2, h.2⟩) h

end Cert.Frames

end
-- ==== Proof.Seen.lean ====
/- Which keys a row of the attention sees. -/
module

public import Idealize.ShloMosaic.Lib.WordCmp
public import Idealize.ShloMosaic.PureOps.Ideal.Laws

@[expose] public section

noncomputable section

namespace Cert.Attention

open Idealize.ShloMosaic Idealize.ShloMosaic.WordCmp

/-- Whether row `i` sees key `j`: near it, or one of the first keys, or one of the first rows. -/
def sees (i j : ℕ) : BitVec 1 :=
  IntOp.ori (IntOp.ori (IntOp.cmpi .sle (IntOp.absi (IntOp.subi (BitVec.ofNat 32 i) (BitVec.ofNat 32 j))) 128#32)
    (IntOp.cmpi .slt (BitVec.ofNat 32 j) 32#32)) (IntOp.cmpi .slt (BitVec.ofNat 32 i) 32#32)

/-- What is added to the score of row `i` at key `j`. -/
def maskAt (i j : ℕ) : EReal := Scalar.select (sees i j) 0 ⊥

theorem absi_small (n : ℕ) (h : n < 1024) : IntOp.absi (BitVec.ofNat 32 n) = BitVec.ofNat 32 n := by
  unfold IntOp.absi
  rw [if_neg]
  rw [BitVec.msb_eq_decide, BitVec.toNat_ofNat]
  simp only [decide_eq_true_eq]
  omega

theorem absi_neg (n : ℕ) (h : n < 1024) : IntOp.absi (- BitVec.ofNat 32 n) = BitVec.ofNat 32 n := by
  rcases Nat.eq_zero_or_pos n with rfl | hn
  · rfl
  · unfold IntOp.absi
    rw [if_pos, BitVec.neg_neg]
    rw [BitVec.msb_eq_decide, BitVec.toNat_neg, BitVec.toNat_ofNat]
    simp only [decide_eq_true_eq]
    omega

theorem absi_dist (i j : ℕ) (hi : i < 1024) (hj : j < 1024) :
    IntOp.absi (IntOp.subi (BitVec.ofNat 32 i) (BitVec.ofNat 32 j)) = BitVec.ofNat 32 (i - j + (j - i)) := by
  rcases Nat.le_total j i with h | h
  · have e : IntOp.subi (BitVec.ofNat 32 i) (BitVec.ofNat 32 j) = BitVec.ofNat 32 (i - j + (j - i)) := by
      apply BitVec.eq_of_toNat_eq
      show (BitVec.ofNat 32 i - BitVec.ofNat 32 j).toNat = _
      rw [BitVec.toNat_sub, BitVec.toNat_ofNat, BitVec.toNat_ofNat, BitVec.toNat_ofNat]
      omega
    rw [e, absi_small _ (by omega)]
  · have e : IntOp.subi (BitVec.ofNat 32 i) (BitVec.ofNat 32 j) = - BitVec.ofNat 32 (i - j + (j - i)) := by
      apply BitVec.eq_of_toNat_eq
      show (BitVec.ofNat 32 i - BitVec.ofNat 32 j).toNat = _
      rw [BitVec.toNat_sub, BitVec.toNat_neg, BitVec.toNat_ofNat, BitVec.toNat_ofNat, BitVec.toNat_ofNat]
      omega
    rw [e, absi_neg _ (by omega)]

theorem or_one : ∀ a b : BitVec 1, IntOp.ori a b = 1#1 ↔ a = 1#1 ∨ b = 1#1 := by decide

theorem or_swap : ∀ a b c : BitVec 1, IntOp.ori a (IntOp.ori b c) = IntOp.ori (IntOp.ori a b) c := by decide

theorem sees_iff (i j : ℕ) (hi : i < 1024) (hj : j < 1024) :
    sees i j = 1#1 ↔ (i - j + (j - i) ≤ 128 ∨ j < 32) ∨ i < 32 := by
  unfold sees
  rw [or_one, or_one, absi_dist i j hi hj]
  rw [show (128#32) = BitVec.ofNat 32 128 from rfl, show (32#32) = BitVec.ofNat 32 32 from rfl,
    cmpi_sle_ofNat_eq_one_iff (by omega) (by omega), cmpi_slt_ofNat_eq_one_iff (by omega) (by omega),
    cmpi_slt_ofNat_eq_one_iff (by omega) (by omega)]

theorem sees_self (i : ℕ) (hi : i < 1024) : sees i i = 1#1 := (sees_iff i i hi hi).mpr (.inl (.inl (by omega)))

end Cert.Attention

end
-- ==== Proof.Values.lean ====
/- What the kernel of a device computes, entry by entry, at the extended reals. -/
module

public import proofs.«01_k».proof.Proof.Region
public import proofs.«01_k».proof.Proof.Seen
public import Idealize.ShloMosaic.Lib.Pointwise
public import Idealize.ShloMosaic.Lib.MatmulPlain
public import Idealize.ShloMosaic.Lib.ValueLayout

@[expose] public section

set_option maxRecDepth 16384

noncomputable section

namespace Cert.KernelIdeal.Butterfly

open Idealize.ShloMosaic Idealize.SL.Sem
open Cert.KernelIdeal Cert.KernelIdeal.Gen Cert.Attention

/-- The scaled queries. -/
theorem queries_apply (x wq : Full Ideal) (i n : Fin 1024) :
    k0_pay2 (F := Ideal) x wq (ix2 i n) = (∑ k : Fin 1024, x (ix2 i k) * wq (ix2 k n)) * Ideal.ofBits .f32 0x3DB504F3#32 := by
  pointwise [k0_pay2]

theorem out_apply (wo : Full Ideal) (i n : Fin 1024) : k0_pay3 (F := Ideal) wo (ix2 i n) = wo (ix2 i n) := by
  pointwise [k0_pay3]

theorem constant_zero {s : Shape} (j : s.Idx) : (constant s .f32 0x00000000#32 : FVec Ideal s .f32) j = (0 : EReal) := Ideal.ofBits_zero_f32

/-- Scores of the rows of a chunk against the keys of a band. -/
theorem scores_apply (B : Band) (q : FVec Ideal S128x128 .bf16) (k : FVec Ideal (Sk B.w) .bf16) (r : Fin 128) (l : Fin B.w) :
    matmul (dotQK B) none q k (constant (Sc B.w) .f32 0x00000000#32) (ix2 r l) = ∑ x : Fin 128, q (ix2 r x) * k (ix2 l x) := by
  have h := Ideal.matmul_transposedRhs_apply none q k (constant (Sc B.w) .f32 0x00000000#32) r l
  rw [constant_zero, zero_add] at h
  exact h

/-- The mean of the values under the weights. -/
def weigh (B : Band) (e : FVec Ideal (Sc B.w) .f32) (v : FVec Ideal (Sk B.w) .bf16) : FVec Ideal S128x128 .bf16 :=
  truncf .bf16 (divf (matmul (dotEV B) none (truncf .bf16 e bitsLt_bf16_f32) v (constant S128x128 .f32 0x00000000#32))
    (broadcastTo S128x128 (shapeCast S128x1 (multiReduction .add [1] S128 e 0x00000000#32 B.red (.inl rfl) rfl) shapeCasts_S128_S128x1)
      broadcasts_S128x1_S128x128)) bitsLt_bf16_f32

theorem weigh_apply (B : Band) (e : FVec Ideal (Sc B.w) .f32) (v : FVec Ideal (Sk B.w) .bf16) (r x : Fin 128) :
    weigh B e v (ix2 r x) = Ideal.div (∑ l : Fin B.w, e (ix2 r l) * v (ix2 l x)) (∑ l : Fin B.w, e (ix2 r l)) := by
  have h := Ideal.matmul_plain_apply none (truncf .bf16 e bitsLt_bf16_f32) v (constant S128x128 .f32 0x00000000#32) r x
  rw [constant_zero, zero_add] at h
  have h' : matmul (dotEV B) none (truncf .bf16 e bitsLt_bf16_f32) v (constant S128x128 .f32 0x00000000#32) (ix2 r x)
      = ∑ l : Fin B.w, e (ix2 r l) * v (ix2 l x) := h
  rw [← h']
  unfold weigh
  generalize matmul (dotEV B) none (truncf .bf16 e bitsLt_bf16_f32) v (constant S128x128 .f32 0x00000000#32) = y
  change Ideal.div (y (ix2 r x)) _ = _
  congr 1
  pointwise []

theorem head_apply (B : Band) (c h : Fin 8) (qm : FVec Ideal S1024x1024 .bf16) (bias : FVec Ideal (Sc B.w) .f32)
    (k v : FVec Ideal (Sk B.w) .bf16) (r e : Fin 128) :
    headOut B c h qm bias k v (ix2 r e)
      = Ideal.div (∑ l : Fin B.w, Ideal.exp (∑ x : Fin 128, qm (ix2 ⟨128 * c.val + r.val, by omega⟩ ⟨128 * h.val + x.val, by omega⟩) * k (ix2 l x) + bias (ix2 r l)) * v (ix2 l e))
          (∑ l : Fin B.w, Ideal.exp (∑ x : Fin 128, qm (ix2 ⟨128 * c.val + r.val, by omega⟩ ⟨128 * h.val + x.val, by omega⟩) * k (ix2 l x) + bias (ix2 r l))) := by
  change weigh B (exp (addf (matmul (dotQK B) none (extractStridedSlice S128x128 ![128 * c.val, 128 * h.val] qm (slices_q c h)) k
    (constant (Sc B.w) .f32 0x00000000#32)) bias)) v (ix2 r e) = _
  rw [weigh_apply]
  simp only [exp_apply, addf_apply, scores_apply]
  pointwise []

theorem rows_apply (wo : Full Ideal) (ctx : FVec Ideal S128x1024 .bf16) (r : Fin 128) (n : Fin 1024) :
    rowsOf wo ctx (ix2 r n) = ∑ k : Fin 1024, ctx (ix2 r k) * wo (ix2 k n) := by
  pointwise [rowsOf]

theorem bias_apply (c : Fin 8) (p : Piece) (r : Fin 128) (l : Fin p.w) :
    biasOf (F := Ideal) c p (ix2 r l) = maskAt (128 * c.val + r.val) (p.c₀ + l.val) := by
  have h : Named.named (F := Ideal) (φ := .f32) κ "mask" 0xCE6E6B28#32 = (⊥ : EReal) := rfl
  have e : ∀ a b : ℕ, IntOp.addi (BitVec.ofNat 32 a) (BitVec.ofNat 32 b) = BitVec.ofNat 32 (b + a) := fun a b => by
    rw [Nat.add_comm]; exact (BitVec.ofNat_add a b).symm
  pointwise [biasOf]
  rw [h, e, e]
  rfl

theorem run_apply (f : KV Ideal) (p : Piece) (h : Fin 8) (l : Fin p.w) (e : Fin 128) (hl : p.c₀ + l.val < 1024) :
    runOf f p h (ix2 l e) = f (ix3 h ⟨p.c₀ + l.val, hl⟩ e) := by
  refine (ValueIdx.shapeCast_1ab_ab_apply (fun j => f ((runRect p h).emb j)) p.cast l e).trans (congrArg f ?_)
  funext a
  apply Fin.ext
  match a with
  | ⟨0, _⟩ => show h.val + 1 * 0 = h.val; omega
  | ⟨1, _⟩ => show p.c₀ + 1 * l.val = p.c₀ + l.val; omega
  | ⟨2, _⟩ => show 0 + 1 * e.val = e.val; omega

theorem join_apply {B : Band} (P : Pair B) (y : FVec Ideal (Sk P.p₀.w) .bf16) (z : FVec Ideal (Sk P.p₁.w) .bf16) (l : Fin B.w) (e : Fin 128)
    (hw : B.w = P.p₀.w + P.p₁.w) :
    joinRuns P y z (ix2 l e) = if h : l.val < P.p₀.w then y (ix2 ⟨l.val, h⟩ e) else z (ix2 ⟨l.val - P.p₀.w, by have := l.isLt; omega⟩ e) := by
  pointwise [joinRuns]
  split
  · refine congrArg y ?_
    rw [Shape.Idx.norm_def]
    funext a
    apply Fin.ext
    match a with
    | ⟨0, _⟩ => rfl
    | ⟨1, _⟩ => rfl
  · refine congrArg z ?_
    rw [Shape.Idx.norm_def]
    funext a
    apply Fin.ext
    match a with
    | ⟨0, _⟩ => rfl
    | ⟨1, _⟩ => rfl

theorem biasPair_apply (c : Fin 8) {B : Band} (P : Pair B) (r : Fin 128) (l : Fin B.w) (hw : B.w = P.p₀.w + P.p₁.w) :
    biasPair (F := Ideal) c P (ix2 r l) = if h : l.val < P.p₀.w then biasOf (F := Ideal) c P.p₀ (ix2 r ⟨l.val, h⟩)
      else biasOf (F := Ideal) c P.p₁ (ix2 r ⟨l.val - P.p₀.w, by have := l.isLt; omega⟩) := by
  pointwise [biasPair]
  split
  · refine congrArg (biasOf (F := Ideal) c P.p₀) ?_
    rw [Shape.Idx.norm_def]
    funext a
    apply Fin.ext
    match a with
    | ⟨0, _⟩ => rfl
    | ⟨1, _⟩ => rfl
  · refine congrArg (biasOf (F := Ideal) c P.p₁) ?_
    rw [Shape.Idx.norm_def]
    funext a
    apply Fin.ext
    match a with
    | ⟨0, _⟩ => rfl
    | ⟨1, _⟩ => rfl

theorem ctx_apply (o : Fin 8 → FVec Ideal S128x128 .bf16) (r : Fin 128) (h : Fin 8) (x : Fin 128) :
    ctxOf o (ix2 r ⟨128 * h.val + x.val, by omega⟩) = o h (ix2 r x) := by
  obtain ⟨h, hh⟩ := h
  have e : ∀ (k : Fin 8) (a b : Fin 128), a.val = b.val → k.val = h → o k (ix2 r a) = o ⟨h, hh⟩ (ix2 r b) := by
    intro k a b hab hk
    rw [Fin.ext hab, show k = ⟨h, hh⟩ from Fin.ext hk]
  pointwise [ctxOf]
  repeat' split
  all_goals first | omega | (refine e _ _ _ ?_ ?_ <;> simp <;> omega)

end Cert.KernelIdeal.Butterfly

end
-- ==== Proof.Bands.lean ====
/- The sums over a band of keys as sums over all keys: outside its band a chunk's rows see no key. -/
module

public import proofs.«01_k».proof.Proof.Values

@[expose] public section

set_option maxRecDepth 16384

noncomputable section

namespace Cert.KernelIdeal.Butterfly

open Idealize.ShloMosaic Idealize.SL.Sem
open Cert.KernelIdeal Cert.KernelIdeal.Gen Cert.Attention

/-- The unnormalised weight of key `j` in row `i` of head `h`. -/
def weightAt (qm : Full Ideal) (fk : KV Ideal) (i : Fin 1024) (h : Fin 8) (j : Fin 1024) : EReal :=
  Ideal.exp (∑ x : Fin 128, qm (ix2 i ⟨128 * h.val + x.val, by omega⟩) * fk (ix3 h j x) + maskAt i.val j.val)

/-- Column `e` of head `h` in row `i`. -/
def meanAt (qm : Full Ideal) (fk fv : KV Ideal) (i : Fin 1024) (h : Fin 8) (e : Fin 128) : EReal :=
  Ideal.div (∑ j : Fin 1024, weightAt qm fk i h j * fv (ix3 h j e)) (∑ j : Fin 1024, weightAt qm fk i h j)

theorem weight_unseen (qm : Full Ideal) (fk : KV Ideal) (i : Fin 1024) (h : Fin 8) (j : Fin 1024) (hs : ¬ sees i.val j.val = 1#1) :
    weightAt qm fk i h j = 0 := by
  unfold weightAt maskAt Scalar.select
  rw [if_neg (show ¬ sees i.val j.val = 1 from hs), EReal.add_bot]
  rfl

theorem sum_band {n N : ℕ} (key : Fin n → Fin N) (hkey : Function.Injective key) (f : Fin N → EReal)
    (h : ∀ j, j ∉ Set.range key → f j = 0) : ∑ l, f (key l) = ∑ j, f j :=
  Fintype.sum_of_injective key hkey _ f h fun _ => rfl

/-- A head of a chunk over a band that misses no key seen. -/
theorem head_band (B : Band) (c h : Fin 8) (qm : Full Ideal) (bias : FVec Ideal (Sc B.w) .f32)
    (k v : FVec Ideal (Sk B.w) .bf16) (fk fv : KV Ideal) (key : Fin B.w → Fin 1024) (hkey : Function.Injective key)
    (r e : Fin 128) (i : Fin 1024) (hi : i.val = 128 * c.val + r.val)
    (hbias : ∀ l, bias (ix2 r l) = maskAt i.val (key l).val)
    (hk : ∀ l x, k (ix2 l x) = fk (ix3 h (key l) x)) (hv : ∀ l x, v (ix2 l x) = fv (ix3 h (key l) x))
    (hout : ∀ j : Fin 1024, j ∉ Set.range key → ¬ sees i.val j.val = 1#1) :
    headOut B c h qm bias k v (ix2 r e) = meanAt qm fk fv i h e := by
  have ei : (⟨128 * c.val + r.val, by omega⟩ : Fin 1024) = i := Fin.ext hi.symm
  have hE : ∀ l : Fin B.w, Ideal.exp (∑ x : Fin 128, qm (ix2 i ⟨128 * h.val + x.val, by omega⟩) * k (ix2 l x) + bias (ix2 r l))
      = weightAt qm fk i h (key l) := fun l => by
    unfold weightAt
    rw [hbias]
    simp only [hk]
  have h₁ := sum_band key hkey (fun j => weightAt qm fk i h j * fv (ix3 h j e)) fun j hj => by
    show weightAt qm fk i h j * fv (ix3 h j e) = 0
    rw [weight_unseen _ _ _ _ _ (hout j hj), zero_mul]
  have h₂ := sum_band key hkey (weightAt qm fk i h) fun j hj => weight_unseen _ _ _ _ _ (hout j hj)
  refine (head_apply B c h qm bias k v r e).trans ?_
  rw [ei]
  simp only [hE, hv]
  unfold meanAt
  rw [← h₁, ← h₂]

/-- Over one run of keys, -/
theorem one_apply (p : Piece) (red : (Sc p.w).Reduces [1] S128) (qk : DotDims.WF S128x128 (Sk p.w) (Sc p.w) [1] [1] [0] [0] [] [])
    (ev : DotDims.WF (Sc p.w) (Sk p.w) S128x128 [1] [0] [0] [1] [] []) (c h : Fin 8) (qm : Full Ideal) (fk fv : KV Ideal) (r e : Fin 128)
    (hp : p.c₀ + p.w ≤ 1024)
    (hout : ∀ j : ℕ, j < 1024 → ¬ (p.c₀ ≤ j ∧ j < p.c₀ + p.w) → ¬ sees (128 * c.val + r.val) j = 1#1) :
    oneVal p red qk ev c qm fk fv h (ix2 r e) = meanAt qm fk fv ⟨128 * c.val + r.val, by omega⟩ h e := by
  refine head_band ⟨p.w, red, qk, ev⟩ c h qm (biasOf c p) (runOf fk p h) (runOf fv p h) fk fv
    (fun l : Fin p.w => ⟨p.c₀ + l.val, by have := l.isLt; omega⟩) (fun a b hab => ?_) r e _ rfl (fun l => ?_) (fun l x => ?_) (fun l x => ?_) (fun j hj => ?_)
  · have := congrArg Fin.val hab
    exact Fin.ext (by simpa using this)
  · exact bias_apply c p r l
  · exact run_apply fk p h l x _
  · exact run_apply fv p h l x _
  · refine hout j.val j.isLt fun hr => hj ⟨⟨j.val - p.c₀, by show j.val - p.c₀ < p.w; omega⟩, Fin.ext ?_⟩
    show p.c₀ + (j.val - p.c₀) = j.val
    omega

/-- and over two. -/
theorem two_apply {W : Band} (R : Pair W) (c h : Fin 8) (qm : Full Ideal) (fk fv : KV Ideal) (r e : Fin 128)
    (hw : W.w = R.p₀.w + R.p₁.w) (h₀ : R.p₀.c₀ + R.p₀.w ≤ R.p₁.c₀) (h₁ : R.p₁.c₀ + R.p₁.w ≤ 1024)
    (hout : ∀ j : ℕ, j < 1024 → ¬ (R.p₀.c₀ ≤ j ∧ j < R.p₀.c₀ + R.p₀.w) → ¬ (R.p₁.c₀ ≤ j ∧ j < R.p₁.c₀ + R.p₁.w) → ¬ sees (128 * c.val + r.val) j = 1#1) :
    twoVal R c qm fk fv h (ix2 r e) = meanAt qm fk fv ⟨128 * c.val + r.val, by omega⟩ h e := by
  refine head_band W c h qm (biasPair c R) _ _ fk fv
    (fun l : Fin W.w => ⟨if l.val < R.p₀.w then R.p₀.c₀ + l.val else R.p₁.c₀ + (l.val - R.p₀.w), by have := l.isLt; split <;> omega⟩)
    (fun a b hab => ?_) r e _ rfl (fun l => ?_) (fun l x => ?_) (fun l x => ?_) (fun j hj => ?_)
  · have := congrArg Fin.val hab
    refine Fin.ext ?_
    simp only at this
    split at this <;> split at this <;> omega
  · rw [biasPair_apply c R r l hw]
    by_cases hl : l.val < R.p₀.w
    · simp only [dif_pos hl, if_pos hl]; exact bias_apply c R.p₀ r ⟨l.val, hl⟩
    · simp only [dif_neg hl, if_neg hl]; exact bias_apply c R.p₁ r ⟨l.val - R.p₀.w, _⟩
  · rw [join_apply R _ _ l x hw]
    by_cases hl : l.val < R.p₀.w
    · simp only [dif_pos hl, if_pos hl]; exact run_apply fk R.p₀ h ⟨l.val, hl⟩ x _
    · simp only [dif_neg hl, if_neg hl]; exact run_apply fk R.p₁ h ⟨l.val - R.p₀.w, _⟩ x _
  · rw [join_apply R _ _ l x hw]
    by_cases hl : l.val < R.p₀.w
    · simp only [dif_pos hl, if_pos hl]; exact run_apply fv R.p₀ h ⟨l.val, hl⟩ x _
    · simp only [dif_neg hl, if_neg hl]; exact run_apply fv R.p₁ h ⟨l.val - R.p₀.w, _⟩ x _
  · refine hout j.val j.isLt (fun hr => hj ⟨⟨j.val - R.p₀.c₀, by omega⟩, Fin.ext ?_⟩) (fun hr => hj ⟨⟨R.p₀.w + (j.val - R.p₁.c₀), by omega⟩, Fin.ext ?_⟩)
    · simp only
      rw [if_pos (by omega)]; omega
    · simp only
      rw [if_neg (by omega)]; omega

/-- Every head of every chunk. -/
theorem headVal_apply (qm : Full Ideal) (fk fv : KV Ideal) (c h : Fin 8) (r e : Fin 128) :
    headVal qm fk fv c h (ix2 r e) = meanAt qm fk fv ⟨128 * c.val + r.val, by omega⟩ h e := by
  have far : ∀ j : ℕ, j < 1024 → ¬ ((128 * c.val + r.val - j + (j - (128 * c.val + r.val)) ≤ 128 ∨ j < 32) ∨ 128 * c.val + r.val < 32) →
      ¬ sees (128 * c.val + r.val) j = 1#1 := fun j hj hn hs => hn ((sees_iff _ j (by omega) hj).mp hs)
  match c, far with
  | 0, far => exact one_apply piece1024 _ _ _ 0 h qm fk fv r e (by decide) fun j hj hn => absurd hn (by simp [piece1024]; omega)
  | 1, far => exact one_apply piece384 _ _ _ 1 h qm fk fv r e (by decide) fun j hj hn => far j hj (by simp [piece384] at hn ⊢; omega)
  | 2, far => exact one_apply piece512 _ _ _ 2 h qm fk fv r e (by decide) fun j hj hn => far j hj (by simp [piece512] at hn ⊢; omega)
  | 3, far => exact one_apply piece640 _ _ _ 3 h qm fk fv r e (by decide) fun j hj hn => far j hj (by simp [piece640] at hn ⊢; omega)
  | 4, far => exact two_apply (pair512 384 (by decide)) 4 h qm fk fv r e rfl (by decide) (by decide) fun j hj hn hn' => far j hj (by simp [pair512, piece128, piece384At] at hn hn' ⊢; omega)
  | 5, far => exact two_apply (pair512 512 (by decide)) 5 h qm fk fv r e rfl (by decide) (by decide) fun j hj hn hn' => far j hj (by simp [pair512, piece128, piece384At] at hn hn' ⊢; omega)
  | 6, far => exact two_apply (pair512 640 (by decide)) 6 h qm fk fv r e rfl (by decide) (by decide) fun j hj hn hn' => far j hj (by simp [pair512, piece128, piece384At] at hn hn' ⊢; omega)
  | 7, far => exact two_apply pair384 7 h qm fk fv r e rfl (by decide) (by decide) fun j hj hn hn' => far j hj (by simp [pair384, piece128, piece256] at hn hn' ⊢; omega)

end Cert.KernelIdeal.Butterfly

end
-- ==== Proof.Host.lean ====
/- What the host operations before the call prepare for each device. -/
module

public import proofs.«01_k».proof.Proof.Region
public import Idealize.ShloMosaic.Lib.Pointwise
public import Idealize.ShloMosaic.Lib.DynamicIndex
public import Idealize.ShloMosaic.Lib.StableHlo.RunClose

@[expose] public section

set_option maxRecDepth 16384

noncomputable section

namespace Cert.KernelIdeal.Butterfly

open Idealize.ShloMosaic Idealize.ShloMosaic.TcCoe Idealize.SL.Sem Idealize.ShloMosaic.StableHlo
open Cert.KernelIdeal Cert.KernelIdeal.Gen

variable {F : FTy → Type} [FloatOps F] [Named F]
variable (m : (ℓ : Loc nD τ sig) → Buf (Elt F) ℓ) (c : Dev nD)

theorem V1_x : V1 m c main_v19 = shapeCast S1024x1024 (m ((c.tc : Thread nD τ).loc main_arg0)) shapeCasts_S1x1024x1024_S1024x1024 := by
  unfold V1 hostOps0
  after_results_simp
  rfl

/-- The first of the eight heads of a device. -/
def base : IVec S_ 32 :=
  have d : IVec S_ 32 := id (Host.remui (Host.divui (constantI S_ 32 (Dev.word c)) (constantI S_ 32 1#32)) (constantI S_ 32 4#32))
  have b : IVec S_ 32 := muli d (constantI S_ 32 8#32)
  select (cmpi .slt b (constantI S_ 32 0#32)) (addi b (constantI S_ 32 32#32)) b

/-- The keys or values of its heads. -/
def own (f : (⟨S1x1024x32x128, .bf16⟩ : BufTy).Contents (Elt F)) : KV F :=
  transpose S8x1024x128 [1, 0, 2] (Host.dynamicSlice S1024x8x128 (shapeCast S1024x32x128 f shapeCasts_S1x1024x32x128_S1024x32x128)
    (fun k => ((![constantI S_ 32 0#32, base c, constantI S_ 32 0#32] : Fin 3 → IVec S_ 32) k (Shape.Idx.first h_S_)).toInt) sliceFits_S1024x32x128_S1024x8x128)
    transposes_S1024x8x128_S8x1024x128_1_0_2

theorem V1_k : V1 m c main_v11 = own c (m ((c.tc : Thread nD τ).loc main_arg2)) := by
  unfold V1 hostOps0
  after_results_simp_entrywise
  rfl

theorem V1_v : V1 m c main_v18 = own c (m ((c.tc : Thread nD τ).loc main_arg3)) := by
  unfold V1 hostOps0
  after_results_simp_entrywise
  rfl

theorem base_val : ∀ c : Dev nD, ((base c) (Shape.Idx.first h_S_)).toInt = 8 * c.val := by decide

theorem slices_own : ∀ c : Dev nD, S1024x32x128.Slices ![0, 8 * c.val, 0] S1024x8x128 := by decide

theorem own_apply (f : (⟨S1x1024x32x128, .bf16⟩ : BufTy).Contents (Elt F)) (h : Fin 8) (j : Fin 1024) (x : Fin 128) (H : Fin 32)
    (hH : H.val = 8 * c.val + h.val) :
    own c f (ix3 h j x) = f (ix4 (0 : Fin 1) j H x) := by
  have hc : c.val < 4 := c.isLt
  unfold own
  rw [Host.dynamicSlice_eq_extractStridedSlice (off := ![0, 8 * c.val, 0]) (hoff := slices_own c) (hs := fun a => ?_)]
  · rw [show H = ⟨8 * c.val + h.val, by omega⟩ from Fin.ext hH]
    pointwise []
  · match a with
    | ⟨0, _⟩ => rfl
    | ⟨1, _⟩ => exact (base_val c).trans (by simp)
    | ⟨2, _⟩ => rfl

end Cert.KernelIdeal.Butterfly

end
-- ==== Proof.Total.lean ====
/- What a device ends with, entry by entry: the sum of every device's part. -/
module

public import proofs.«01_k».proof.Proof.Bands
public import proofs.«01_k».proof.Proof.Host

@[expose] public section

set_option maxRecDepth 16384

noncomputable section

namespace Cert.KernelIdeal.Butterfly

open Idealize.ShloMosaic Idealize.ShloMosaic.TcCoe Idealize.SL.Sem
open Cert.KernelIdeal Cert.KernelIdeal.Gen Cert.Attention

/-- A device's part of an entry. -/
def share (A : Ins Ideal) (i n : Fin 1024) : EReal :=
  ∑ k : Fin 1024, meanAt (k0_pay2 A.x A.wq) A.k A.v i ⟨k.val / 128, by omega⟩ ⟨k.val % 128, by omega⟩ * A.wo (ix2 k n)

theorem half_inside (i n : Fin 1024) : half (halfOf (ix2 i n)) (inside (ix2 i n)) = ix2 (⟨i.val % 128, by omega⟩ : Fin 128) n := by
  funext a
  fin_cases a
  · exact Fin.ext (show 0 + i.val % 128 = i.val % 128 by omega)
  · exact Fin.ext (show 512 * (n.val / 512) + n.val % 512 = n.val by omega)

theorem val_share (A : Dev nD → Ins Ideal) (d : Dev nD) (i n : Fin 1024) :
    val A d (chunkOf (ix2 i n)) (halfOf (ix2 i n)) (inside (ix2 i n)) = share (A d) i n := by
  show rowsVal (A d).x (A d).wq (A d).k (A d).v (A d).wo (chunkOf (ix2 i n)) (half (halfOf (ix2 i n)) (inside (ix2 i n))) = _
  rw [half_inside]
  unfold rowsVal share
  rw [rows_apply]
  refine Finset.sum_congr rfl fun k _ => ?_
  rw [out_apply]
  have hk : k = (⟨128 * (⟨k.val / 128, by omega⟩ : Fin 8).val + (⟨k.val % 128, by omega⟩ : Fin 128).val, by show 128 * (k.val / 128) + k.val % 128 < 1024; omega⟩ : Fin 1024) :=
    Fin.ext (show k.val = 128 * (k.val / 128) + k.val % 128 by omega)
  have hi : (⟨128 * (chunkOf (ix2 i n)).val + (⟨i.val % 128, by omega⟩ : Fin 128).val, by show 128 * (i.val / 128) + i.val % 128 < 1024; omega⟩ : Fin 1024) = i :=
    Fin.ext (show 128 * (i.val / 128) + i.val % 128 = i.val by omega)
  congr 1
  conv_lhs => rw [hk]
  rw [ctx_apply, headVal_apply]
  exact congrArg (fun z => meanAt _ _ _ z _ _) hi

theorem part_zero : ∀ d : Dev nD, part 0 d = (![1, 0, 3, 2] : Fin 4 → Fin 4) d := by decide
theorem part_one : ∀ d : Dev nD, part 1 d = (![3, 2, 1, 0] : Fin 4 → Fin 4) d := by decide

/-- The two rounds add up every device's part. -/
theorem rounds (f : Dev nD → EReal) (d : Dev nD) (s : Fin 2) :
    (f d + f (part s d)) + (f (part (s + 1) d) + f (part s (part (s + 1) d))) = ∑ e : Fin 4, f e := by
  rw [Fin.sum_univ_four]
  have h : (0 : Fin 2) + 1 = 1 := rfl
  have h' : (1 : Fin 2) + 1 = 0 := rfl
  match s, d with
  | 0, 0 => simp only [h, part_zero, part_one]; show f 0 + f 1 + (f 3 + f 2) = _; ac_rfl
  | 0, 1 => simp only [h, part_zero, part_one]; show f 1 + f 0 + (f 2 + f 3) = _; ac_rfl
  | 0, 2 => simp only [h, part_zero, part_one]; show f 2 + f 3 + (f 1 + f 0) = _; ac_rfl
  | 0, 3 => simp only [h, part_zero, part_one]; show f 3 + f 2 + (f 0 + f 1) = _; ac_rfl
  | 1, 0 => simp only [h', part_zero, part_one]; show f 0 + f 3 + (f 1 + f 2) = _; ac_rfl
  | 1, 1 => simp only [h', part_zero, part_one]; show f 1 + f 2 + (f 0 + f 3) = _; ac_rfl
  | 1, 2 => simp only [h', part_zero, part_one]; show f 2 + f 1 + (f 3 + f 0) = _; ac_rfl
  | 1, 3 => simp only [h', part_zero, part_one]; show f 3 + f 0 + (f 2 + f 1) = _; ac_rfl

theorem sum2_apply (P : Dev nD → Fin 8 → Fin 2 → Blk Ideal) (d : Dev nD) (c : Fin 8) (s : Fin 2) (j : S128x512.Idx) :
    sum2 P d c s j = ∑ e : Fin 4, (P e c s j : EReal) :=
  rounds (fun e => P e c s j) d s

theorem res_apply (m : (ℓ : Loc nD τ sig) → Buf (Elt Ideal) ℓ) (d : Dev nD) (i n : Fin 1024) :
    res m d (ix2 i n) = ∑ e : Fin 4, share (ins m e) i n := by
  show sum2 (val (ins m)) d (chunkOf (ix2 i n)) (halfOf (ix2 i n)) (inside (ix2 i n)) = _
  rw [sum2_apply]
  exact Finset.sum_congr rfl fun e _ => val_share (ins m) e i n

/-- The result, as the program returns it. -/
theorem result_apply (m : (ℓ : Loc nD τ sig) → Buf (Elt Ideal) ℓ) (d : Dev nD) (i n : Fin 1024) :
    V3 m (outs m) d main_v21 (ix3 (0 : Fin 1) i n) = ∑ e : Fin 4, share (ins m e) i n := by
  have h : V3 m (outs m) d main_v21 = shapeCast S1x1024x1024 (V2 m (outs m) d main_v20) shapeCasts_S1024x1024_S1x1024x1024 := by
    unfold V3 hostOps1
    after_results_simp
    rfl
  rw [h, new_out, ← res_apply m d i n]
  pointwise []

end Cert.KernelIdeal.Butterfly

end
-- ==== Proof.Softmax.lean ====
/- A masked softmax over the extended reals: dividing the weighted sum of the values by the sum of the
   exponentials, and weighing each value by its share of the exponentials taken relative to the largest
   score, are the same. The values may be infinite, the scores are reals. -/
module

public import proofs.«01_k».proof.Proof.Seen
public import Mathlib.Analysis.SpecialFunctions.Exp

@[expose] public section

noncomputable section

namespace Cert.Attention

open Idealize.ShloMosaic

variable {ι : Type} [Fintype ι]

/-- A nonnegative real factor goes through a sum, infinite terms or not. -/
theorem sum_times (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem sum_coe (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The exponential of a score that is seen, nothing otherwise. -/
def expo (seen : ι → BitVec 1) (S : ι → ℝ) (j : ι) : ℝ := if seen j = 1 then Real.exp (S j) else 0

theorem expo_nonneg (seen : ι → BitVec 1) (S : ι → ℝ) (j : ι) : 0 ≤ expo seen S j := by
  unfold expo; split
  · exact (Real.exp_pos _).le
  · exact le_refl _

theorem expo_sum_pos (seen : ι → BitVec 1) (S : ι → ℝ) (o : ι) (ho : seen o = 1) : 0 < ∑ j, expo seen S j := by
  refine Finset.sum_pos' (fun j _ => expo_nonneg seen S j) ⟨o, Finset.mem_univ o, ?_⟩
  unfold expo; rw [if_pos ho]; exact Real.exp_pos _

theorem exp_bot : Ideal.exp (⊥ : EReal) = 0 := rfl

/-- With the mask added to the score. -/
theorem exp_masked (seen : ι → BitVec 1) (S : ι → ℝ) (j : ι) :
    Ideal.exp ((S j : EReal) + Scalar.select (seen j) 0 ⊥) = (expo seen S j : EReal) := by
  unfold expo Scalar.select; split
  · rw [add_zero]; rfl
  · rw [EReal.add_bot, exp_bot, EReal.coe_zero]

/-- With the mask in the score's place, relative to a real. -/
theorem exp_relative (seen : ι → BitVec 1) (S : ι → ℝ) (μ : ℝ) (j : ι) :
    Ideal.exp (Scalar.select (seen j) (S j : EReal) ⊥ - (μ : EReal)) = ((expo seen S j * Real.exp (-μ) : ℝ) : EReal) := by
  unfold expo Scalar.select; split
  · rw [← EReal.coe_sub, sub_eq_add_neg, ← Real.exp_add]; rfl
  · rw [EReal.bot_sub, exp_bot, zero_mul, EReal.coe_zero]

/-- The largest of scores of which one is seen is a real. -/
theorem max_real (seen : ι → BitVec 1) (S : ι → ℝ) (o : ι) (ho : seen o = 1) :
    ∃ μ : ℝ, Finset.fold max (⊥ : EReal) (fun j => Scalar.select (seen j) (S j : EReal) ⊥) Finset.univ = (μ : EReal) := by
  classical
  have hlt : Finset.fold max (⊥ : EReal) (fun j => Scalar.select (seen j) (S j : EReal) ⊥) Finset.univ < ⊤ := by
    rw [Finset.fold_max_lt]
    refine ⟨bot_lt_top, fun j _ => ?_⟩
    unfold Scalar.select; split
    · exact EReal.coe_lt_top _
    · exact bot_lt_top
  have hgt : ⊥ < Finset.fold max (⊥ : EReal) (fun j => Scalar.select (seen j) (S j : EReal) ⊥) Finset.univ := by
    rw [Finset.lt_fold_max]
    refine .inr ⟨o, Finset.mem_univ o, ?_⟩
    unfold Scalar.select; rw [if_pos ho]; exact EReal.bot_lt_coe _
  exact ⟨_, (EReal.coe_toReal hlt.ne hgt.ne').symm⟩

theorem div_real (x : EReal) (y : ℝ) (hy : 0 < y) : Ideal.div x (y : EReal) = x * ((y⁻¹ : ℝ) : EReal) := by
  rw [Ideal.div_coe hy.ne', one_div]

/-- The two ways of weighing agree. -/
theorem softmax_eq (seen : ι → BitVec 1) (S : ι → ℝ) (V : ι → EReal) (o : ι) (ho : seen o = 1) :
    Ideal.div (∑ j, Ideal.exp ((S j : EReal) + Scalar.select (seen j) 0 ⊥) * V j) (∑ j, Ideal.exp ((S j : EReal) + Scalar.select (seen j) 0 ⊥))
      = ∑ j, V j * Ideal.div
          (Ideal.exp (Scalar.select (seen j) (S j : EReal) ⊥ - Finset.fold max (⊥ : EReal) (fun x => Scalar.select (seen x) (S x : EReal) ⊥) Finset.univ))
          (∑ l, Ideal.exp (Scalar.select (seen l) (S l : EReal) ⊥ - Finset.fold max (⊥ : EReal) (fun x => Scalar.select (seen x) (S x : EReal) ⊥) Finset.univ)) := by
  obtain ⟨μ, hμ⟩ := max_real seen S o ho
  rw [hμ]
  simp only [exp_masked, exp_relative]
  have hD := expo_sum_pos seen S o ho
  have hE : 0 < ∑ j, expo seen S j * Real.exp (-μ) := by
    rw [← Finset.sum_mul]; exact mul_pos hD (Real.exp_pos _)
  rw [sum_coe, sum_coe, div_real _ _ hD, sum_times _ _ _ (inv_nonneg.mpr hD.le)]
  refine Finset.sum_congr rfl fun j _ => ?_
  rw [div_real _ _ hE, mul_comm (expo seen S j : EReal) (V j), mul_assoc, ← EReal.coe_mul, ← EReal.coe_mul]
  congr 2
  rw [← Finset.sum_mul, mul_inv]
  have := (Real.exp_pos (-μ)).ne'
  field_simp

end Cert.Attention

end
-- ==== Proof.RefValues.lean ====
/- What the reference computes, entry by entry, at the extended reals. -/
module

public import proofs.«01_k».proof.Proof.Gen.ReferenceIdeal.Run
public import proofs.«01_k».proof.Proof.Seen
public import Idealize.ShloMosaic.Lib.Pointwise

@[expose] public section

set_option maxRecDepth 16384

noncomputable section

namespace Cert.ReferenceIdeal.Stages

open Idealize.ShloMosaic Idealize.ShloMosaic.TcCoe
open Cert.ReferenceIdeal Cert.ReferenceIdeal.Gen Cert.Attention

/-! ## The reference in stages -/

section
variable {F : FTy → Type} [FloatOps F]

/-- Which keys a row sees. -/
def seen : IVec S1024x1024 1 :=
  ori (cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
      (broadcastInDim S1024x1024 ![] bcast_S_S1024x1024 (constantI S_ 32 128#32)))
    (ori (broadcastInDim S1024x1024 ![0, 1] bcast_S1x1024_S1024x1024_0_1 (cmpi .slt (broadcastInDim S1x1024 ![1] bcast_S1024_S1x1024_1 (iotaInDim S1024 32 0))
        (broadcastInDim S1x1024 ![] bcast_S_S1x1024 (constantI S_ 32 32#32))))
      (broadcastInDim S1024x1024 ![0, 1] bcast_S1024x1_S1024x1024_0_1 (cmpi .slt (broadcastInDim S1024x1 ![0] bcast_S1024_S1024x1_0 (iotaInDim S1024 32 0))
        (broadcastInDim S1024x1 ![] bcast_S_S1024x1 (constantI S_ 32 32#32)))))

/-- The queries. -/
def queries (x : FVec F S1x1024x1024 .bf16) (wq : FVec F S1024x4096 .bf16) : FVec F S1024x4096 .bf16 :=
  truncf .bf16 (Host.dotGeneral dot_S1024x1024_S1024x4096_S1024x4096_1_0_0_1_n_n none (shapeCast _ x shapeCasts_S1x1024x1024_S1024x1024) wq) bitsLt_bf16_f32

/-- The scaled scores. -/
def scores (q : FVec F S1024x4096 .bf16) (k : FVec F S1x1024x32x128 .bf16) : FVec F S32x1024x1024 .f32 :=
  mulf (extf .f32 (truncf .bf16 (Host.dotGeneral dot_S1024x32x128_S1024x32x128_S32x1024x1024_2_2_0_0_1_1 none
      (shapeCast _ q shapeCasts_S1024x4096_S1024x32x128) (shapeCast _ k shapeCasts_S1x1024x32x128_S1024x32x128)) bitsLt_bf16_f32) bitsLt_bf16_f32)
    (broadcastInDim S32x1024x1024 ![] bcast_S_S32x1024x1024 (constant S_ .f32 0x3DB504F3#32))

/-- The scores of the keys seen. -/
def masked (t : FVec F S32x1024x1024 .f32) : FVec F S32x1024x1024 .f32 :=
  select (broadcastInDim S32x1024x1024 ![0, 1, 2] bcast_S1x1024x1024_S32x1024x1024_0_1_2 (broadcastInDim S1x1024x1024 ![1, 2] bcast_S1024x1024_S1x1024x1024_1_2 seen)) t
    (broadcastInDim S32x1024x1024 ![] bcast_S_S32x1024x1024 (id (constant S_ .f32 0xFF800000#32)))

/-- Their exponentials, relative to each row's largest. -/
def expd (t : FVec F S32x1024x1024 .f32) : FVec F S32x1024x1024 .f32 :=
  Host.exp (subf t (broadcastInDim S32x1024x1024 ![0, 1, 2] bcast_S32x1024x1_S32x1024x1024_0_1_2 (broadcastInDim S32x1024x1 ![0, 1] bcast_S32x1024_S32x1024x1_0_1
    (Host.reduce FloatOps.maximumf t (constant S_ .f32 0xFF800000#32) reducesTo_S32x1024x1024_S32x1024_d2 h_S_))))

/-- Whether a row sees any key. -/
def keep : IVec S1x1024x1 1 :=
  broadcastInDim S1x1024x1 ![1] bcast_S1024_S1x1024x1_1 (Host.reduce IntOp.ori seen (constantI S_ 1 0#1) reducesTo_S1024x1024_S1024_d1 h_S_)

/-- The weights. -/
def weights (e : FVec F S32x1024x1024 .f32) : FVec F S32x1024x1024 .f32 :=
  select (broadcastInDim S32x1024x1024 ![0, 1, 2] bcast_S1x1024x1_S32x1024x1024_0_1_2 keep)
    (Host.divf e (broadcastInDim S32x1024x1024 ![0, 1, 2] bcast_S32x1024x1_S32x1024x1024_0_1_2
      (select (broadcastInDim S32x1024x1 ![0, 1, 2] bcast_S1x1024x1_S32x1024x1_0_1_2 keep)
        (broadcastInDim S32x1024x1 ![0, 1] bcast_S32x1024_S32x1024x1_0_1 (Host.reduceAdd e (constant S_ .f32 0x00000000#32) reducesTo_S32x1024x1024_S32x1024_d2 h_S_))
        (broadcastInDim S32x1024x1 ![] bcast_S_S32x1024x1 (id (constant S_ .f32 0x3F800000#32))))))
    (broadcastInDim S32x1024x1024 ![] bcast_S_S32x1024x1024 (id (constant S_ .f32 0x00000000#32)))

/-- The weighted means of the values, all heads side by side. -/
def means (w : FVec F S32x1024x1024 .f32) (v : FVec F S1x1024x32x128 .bf16) : FVec F S1024x4096 .f32 :=
  shapeCast _ (transpose S1024x32x128 [2, 0, 1] (Host.dotGeneral dot_S1024x32x128_S32x1024x1024_S32x128x1024_0_2_2_1_1_0 none
    (extf .f32 (shapeCast _ v shapeCasts_S1x1024x32x128_S1024x32x128) bitsLt_bf16_f32) w) transposes_S32x128x1024_S1024x32x128_2_0_1) shapeCasts_S1024x32x128_S1024x4096

/-- Their projection. -/
def project (c : FVec F S1024x4096 .f32) (wo : FVec F S4096x1024 .bf16) : FVec F S1x1024x1024 .bf16 :=
  broadcastInDim S1x1024x1024 ![1, 2] bcast_S1024x1024_S1x1024x1024_1_2 (truncf .bf16 (Host.dotGeneral dot_S1024x4096_S4096x1024_S1024x1024_1_0_0_1_n_n none c
    (extf .f32 wo bitsLt_bf16_f32)) bitsLt_bf16_f32)

set_option maxHeartbeats 1000000 in
theorem result_eq (m : (ℓ : Loc nD τ sig) → Buf (Elt F) ℓ) (c : Dev nD) :
    Value.res_main_v52 m c = project (means (weights (expd (masked (scores (queries (m ((c.tc : Thread nD τ).loc main_arg0)) (m ((c.tc : Thread nD τ).loc main_arg1)))
      (m ((c.tc : Thread nD τ).loc main_arg2)))))) (m ((c.tc : Thread nD τ).loc main_arg3))) (m ((c.tc : Thread nD τ).loc main_arg4)) := by
  unfold Value.res_main_v52
  rfl

end

theorem seen_apply (i j : Fin 1024) : seen (ix2 i j) = sees i.val j.val := by
  pointwise [seen]
  exact or_swap _ _ _

theorem queries_apply (x : FVec Ideal S1x1024x1024 .bf16) (wq : FVec Ideal S1024x4096 .bf16) (i : Fin 1024) (n : Fin 4096) :
    queries x wq (ix2 i n) = ∑ k : Fin 1024, x (ix3 (0 : Fin 1) i k) * wq (ix2 k n) := by
  pointwise [queries]

theorem scores_apply (q : FVec Ideal S1024x4096 .bf16) (k : FVec Ideal S1x1024x32x128 .bf16) (h : Fin 32) (i j : Fin 1024) :
    scores q k (ix3 h i j) = (∑ x : Fin 128, q (ix2 i ⟨h.val * 128 + x.val, by omega⟩) * k (ix4 (0 : Fin 1) j h x)) * Ideal.ofBits .f32 0x3DB504F3#32 := by
  pointwise [scores]

theorem masked_apply (t : FVec Ideal S32x1024x1024 .f32) (h : Fin 32) (i j : Fin 1024) :
    masked t (ix3 h i j) = Scalar.select (sees i.val j.val) (t (ix3 h i j)) (Ideal.ofBits .f32 0xFF800000#32) := by
  pointwise [masked, seen_apply]
  rfl

theorem expd_apply (t : FVec Ideal S32x1024x1024 .f32) (h : Fin 32) (i j : Fin 1024) :
    expd t (ix3 h i j) = Ideal.exp (t (ix3 h i j) - Finset.fold max (Ideal.ofBits .f32 0xFF800000#32) (fun x => t (ix3 h i x)) Finset.univ) := by
  pointwise [expd]

instance : Std.Commutative (IntOp.ori (w := 1)) := ⟨by decide⟩
instance : Std.Associative (IntOp.ori (w := 1)) := ⟨by decide⟩

theorem keep_apply (i : Fin 1024) : keep (ix3 (0 : Fin 1) i (0 : Fin 1)) = 1#1 := by
  have one : ∀ a : BitVec 1, IntOp.ori 1#1 a = 1#1 := by decide
  pointwise [keep]
  rw [← Finset.insert_erase (Finset.mem_univ i), Finset.fold_insert (Finset.notMem_erase i _), seen_apply, sees_self i.val i.isLt, one]

theorem weights_apply (e : FVec Ideal S32x1024x1024 .f32) (h : Fin 32) (i j : Fin 1024) :
    weights e (ix3 h i j) = Ideal.div (e (ix3 h i j)) (∑ x : Fin 1024, e (ix3 h i x)) := by
  pointwise [weights]
  rw [keep_apply]
  rfl

theorem means_apply (w : FVec Ideal S32x1024x1024 .f32) (v : FVec Ideal S1x1024x32x128 .bf16) (i : Fin 1024) (h : Fin 32) (e : Fin 128) :
    means w v (ix2 i ⟨h.val * 128 + e.val, by omega⟩) = ∑ j : Fin 1024, v (ix4 (0 : Fin 1) j h e) * w (ix3 h i j) := by
  have h1 : ∀ p, (⟨(h.val * 128 + e.val) / 128, p⟩ : Fin 32) = h := fun p => Fin.ext (by show (h.val * 128 + e.val) / 128 = h.val; omega)
  have h2 : ∀ p, (⟨(h.val * 128 + e.val) % 128, p⟩ : Fin 128) = e := fun p => Fin.ext (by show (h.val * 128 + e.val) % 128 = e.val; omega)
  pointwise [means]

theorem project_apply (c : FVec Ideal S1024x4096 .f32) (wo : FVec Ideal S4096x1024 .bf16) (i n : Fin 1024) :
    project c wo (ix3 (0 : Fin 1) i n) = ∑ k : Fin 4096, c (ix2 i k) * wo (ix2 k n) := by
  pointwise [project]

end Cert.ReferenceIdeal.Stages

end
-- ==== Proof.Finite.lean ====
/- What the precondition gives: the entries of the input, of the query weights and of the keys are real. -/
module

public import proofs.«01_k».proof.Defs
public import Idealize.ShloMosaic.Lib.ReduceAll
public import Idealize.ShloMosaic.Lib.IdealHost
public import Idealize.ShloMosaic.Lib.Pointwise

@[expose] public section

set_option maxRecDepth 16384

noncomputable section

namespace Cert.Pre_finite_KernelIdeal

open Idealize.ShloMosaic

theorem facts : Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S1x1024x32x128 := by decide
  reducesTo_S1x1024x32x128_S_d0_1_2_3 := by decide

end Cert.Pre_finite_KernelIdeal

namespace Cert.Pre_finite_ReferenceIdeal

open Idealize.ShloMosaic

theorem facts : Facts where
  bitsLt_bf16_f32 := by decide
  bcast_S_S1x1024x1024 := by decide
  reducesTo_S1x1024x1024_S_d0_1_2 := by decide
  h_S_ := by decide
  bcast_S_S1024x4096 := by decide
  reducesTo_S1024x4096_S_d0_1 := by decide
  bcast_S_S1x1024x32x128 := by decide
  reducesTo_S1x1024x32x128_S_d0_1_2_3 := by decide

end Cert.Pre_finite_ReferenceIdeal

namespace Cert.Attention

open Idealize.ShloMosaic Idealize.ShloMosaic.TcCoe

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_scale : ∃ s : ℝ, Ideal.ofBits .f32 0x3DB504F3#32 = (s : EReal) := by
  have h : Ideal.ofBits .f32 0x3DB504F3#32 ≠ ⊥ ∧ Ideal.ofBits .f32 0x3DB504F3#32 ≠ ⊤ := by
    simp [Ideal.ofBits, Ideal.ieee, -EReal.coe_mul]
  exact ⟨_, (EReal.coe_toReal h.2 h.1).symm⟩

/-- An extended real whose distance from zero is below infinity is real. -/
theorem real_of_abs {x : EReal} (h : max x (-x) < ⊤) : ∃ r : ℝ, x = r := by
  induction x with
  | bot => simp at h
  | coe r => exact ⟨r, rfl⟩
  | top => simp at h

theorem real_of_test {x : EReal} (h : Ideal.cmp .olt (max x (-x)) (Ideal.ofBits .f32 0x7F800000#32) = 1#1) : ∃ r : ℝ, x = r := by
  rw [bits_top] at h
  refine real_of_abs (by_contra fun hn => ?_)
  simp [Ideal.cmp, hn] at h

open Cert.Pre_finite_KernelIdeal in
theorem real_of_fn [Facts] (a₀ : FVec Ideal S1x1024x1024 .bf16) (a₁ : FVec Ideal S1024x1024 .bf16) (a₂ a₃ : FVec Ideal S1x1024x32x128 .bf16) (a₄ : FVec Ideal S1024x1024 .bf16)
    (h : fn (F := Ideal) a₀ a₁ a₂ a₃ a₄ = fun _ => 1#1) :
    (∀ i, ∃ r : ℝ, a₀ i = (r : EReal)) ∧ (∀ i, ∃ r : ℝ, a₁ i = (r : EReal)) ∧ (∀ i, ∃ r : ℝ, a₂ i = (r : EReal)) := by
  haveI : Subsingleton S_.Idx := ⟨fun a b => funext fun k => k.elim0⟩
  have h := congrFun h (fun k => k.elim0)
  obtain ⟨h, h₂⟩ := IntOp.andi_eq_one.mp h
  obtain ⟨h₀, h₁⟩ := IntOp.andi_eq_one.mp h
  exact ⟨fun i => real_of_test (Host.reduce_andi_all _ _ _ _ _ h₀ i), fun i => real_of_test (Host.reduce_andi_all _ _ _ _ _ h₁ i),
    fun i => real_of_test (Host.reduce_andi_all _ _ _ _ _ h₂ i)⟩

end Cert.Attention

end
-- ==== Proof.Algebra.lean ====
/- The program and the reference compute the same. -/
module

public import proofs.«01_k».proof.Proof.Total
public import proofs.«01_k».proof.Proof.Softmax
public import proofs.«01_k».proof.Proof.RefValues
public import proofs.«01_k».proof.Proof.Finite
public import proofs.«01_k».proof.Proof.Finish

@[expose] public section

set_option maxRecDepth 16384

noncomputable section

namespace Cert.Equal

open Idealize.ShloMosaic Idealize.ShloMosaic.TcCoe Idealize.SL.Sem
open Cert.Attention
open Cert.KernelIdeal.Butterfly (meanAt weightAt share ins outs result_apply own_apply KV Full)
open Cert.ReferenceIdeal.Stages (queries scores masked expd weights means project)

/-- A score, of a row, a head's columns of the query weights, a key and the scale. -/
def score (x : Fin 1024 → ℝ) (w : Fin 128 → Fin 1024 → ℝ) (k : Fin 128 → ℝ) (s : ℝ) : ℝ := (∑ y, (∑ t, x t * w y t) * k y) * s

/-- Scaling the queries, -/
theorem score_queries (x : Fin 1024 → ℝ) (w : Fin 128 → Fin 1024 → ℝ) (k : Fin 128 → ℝ) (s : ℝ) :
    ∑ y, ((∑ t, (x t : EReal) * (w y t : EReal)) * (s : EReal)) * (k y : EReal) = (score x w k s : EReal) := by
  simp only [← EReal.coe_mul, sum_coe]
  congr 1
  unfold score
  rw [Finset.sum_mul]
  exact Finset.sum_congr rfl fun y _ => by ring

/-- or the scores. -/
theorem score_scores (x : Fin 1024 → ℝ) (w : Fin 128 → Fin 1024 → ℝ) (k : Fin 128 → ℝ) (s : ℝ) :
    (∑ y, (∑ t, (x t : EReal) * (w y t : EReal)) * (k y : EReal)) * (s : EReal) = (score x w k s : EReal) := by
  simp only [← EReal.coe_mul, sum_coe]
  rfl

section
variable (xr : Fin 1024 → ℝ) (wr : Fin 128 → Fin 1024 → ℝ) (kr : Fin 1024 → Fin 128 → ℝ) (s : ℝ) (hs : Ideal.ofBits .f32 0x3DB504F3#32 = (s : EReal))
  (i : Fin 1024) (e : Fin 128)
include hs

theorem kernel_mean (x wq : Full Ideal) (fk fv : KV Ideal) (h : Fin 8) (hx : ∀ t : Fin 1024, x (ix2 i t) = (xr t : EReal))
    (hw : ∀ (y : Fin 128) (t : Fin 1024), wq (ix2 t (⟨128 * h.val + y.val, by omega⟩ : Fin 1024)) = (wr y t : EReal)) (hk : ∀ (j : Fin 1024) (y : Fin 128), fk (ix3 h j y) = (kr j y : EReal)) :
    meanAt (Cert.KernelIdeal.Gen.k0_pay2 (F := Ideal) x wq) fk fv i h e =
      Ideal.div (∑ j : Fin 1024, Ideal.exp ((score xr wr (kr j) s : EReal) + Scalar.select (sees i.val j.val) 0 ⊥) * fv (ix3 h j e))
        (∑ j : Fin 1024, Ideal.exp ((score xr wr (kr j) s : EReal) + Scalar.select (sees i.val j.val) 0 ⊥)) := by
  have hq : ∀ y : Fin 128, Cert.KernelIdeal.Gen.k0_pay2 (F := Ideal) x wq (ix2 i (⟨128 * h.val + y.val, by omega⟩ : Fin 1024)) = (∑ t, (xr t : EReal) * (wr y t : EReal)) * (s : EReal) := fun y => by
    rw [Cert.KernelIdeal.Butterfly.queries_apply, hs]
    exact congrArg (· * (s : EReal)) (Finset.sum_congr rfl fun t _ => by rw [hx, hw])
  have hw' : ∀ j : Fin 1024, weightAt (Cert.KernelIdeal.Gen.k0_pay2 (F := Ideal) x wq) fk i h j = Ideal.exp ((score xr wr (kr j) s : EReal) + Scalar.select (sees i.val j.val) 0 ⊥) := fun j => by
    unfold weightAt maskAt
    simp only [hq, hk]
    rw [score_queries xr wr (kr j) s]
  unfold meanAt
  simp only [hw']

theorem reference_mean (X : FVec Ideal Cert.ReferenceIdeal.S1x1024x1024 .bf16) (W : FVec Ideal Cert.ReferenceIdeal.S1024x4096 .bf16)
    (K V : FVec Ideal Cert.ReferenceIdeal.S1x1024x32x128 .bf16) (H : Fin 32) (hx : ∀ t : Fin 1024, X (ix3 (0 : Fin 1) i t) = (xr t : EReal))
    (hw : ∀ (y : Fin 128) (t : Fin 1024), W (ix2 t (⟨H.val * 128 + y.val, by omega⟩ : Fin 4096)) = (wr y t : EReal)) (hk : ∀ (j : Fin 1024) (y : Fin 128), K (ix4 (0 : Fin 1) j H y) = (kr j y : EReal)) :
    means (weights (expd (masked (scores (queries X W) K)))) V (ix2 i (⟨H.val * 128 + e.val, by omega⟩ : Fin 4096)) =
      ∑ j : Fin 1024, V (ix4 (0 : Fin 1) j H e) * Ideal.div
        (Ideal.exp (Scalar.select (sees i.val j.val) (score xr wr (kr j) s : EReal) ⊥ - Finset.fold max ⊥ (fun x : Fin 1024 => Scalar.select (sees i.val x.val) (score xr wr (kr x) s : EReal) ⊥) Finset.univ))
        (∑ l : Fin 1024, Ideal.exp (Scalar.select (sees i.val l.val) (score xr wr (kr l) s : EReal) ⊥ - Finset.fold max ⊥ (fun x : Fin 1024 => Scalar.select (sees i.val x.val) (score xr wr (kr x) s : EReal) ⊥) Finset.univ)) := by
  have hp : ∀ y : Fin 128, queries X W (ix2 i (⟨H.val * 128 + y.val, by omega⟩ : Fin 4096)) = ∑ t, (xr t : EReal) * (wr y t : EReal) := fun y => by
    rw [Cert.ReferenceIdeal.Stages.queries_apply]
    exact Finset.sum_congr rfl fun t _ => by rw [hx, hw]
  have hq : ∀ j : Fin 1024, masked (scores (queries X W) K) (ix3 H i j) = Scalar.select (sees i.val j.val) (score xr wr (kr j) s : EReal) ⊥ := fun j => by
    rw [Cert.ReferenceIdeal.Stages.masked_apply, bits_bot, Cert.ReferenceIdeal.Stages.scores_apply, hs]
    simp only [hp, hk]
    rw [score_scores xr wr (kr j) s]
  rw [Cert.ReferenceIdeal.Stages.means_apply]
  simp only [Cert.ReferenceIdeal.Stages.weights_apply, Cert.ReferenceIdeal.Stages.expd_apply, bits_bot, hq]

end

/-- The columns of all devices are the reference's. -/
theorem regroup (f : Fin 4096 → EReal) : ∑ d : Fin 4, ∑ k : Fin 1024, f ⟨1024 * d.val + k.val, by omega⟩ = ∑ k, f k := by
  rw [← (finProdFinEquiv (m := 4) (n := 1024)).sum_comp, Fintype.sum_prod_type]
  refine Finset.sum_congr rfl fun d _ => Finset.sum_congr rfl fun k _ => congrArg f (Fin.ext ?_)
  show 1024 * d.val + k.val = k.val + 1024 * d.val
  omega

section
variable (m : (ℓ : Loc Cert.KernelIdeal.nD Cert.KernelIdeal.τ Cert.KernelIdeal.sig) → Buf (Elt Ideal) ℓ)
  (X : FVec Ideal Cert.ReferenceIdeal.S1x1024x1024 .bf16) (W : FVec Ideal Cert.ReferenceIdeal.S1024x4096 .bf16)
  (K V : FVec Ideal Cert.ReferenceIdeal.S1x1024x32x128 .bf16) (O : FVec Ideal Cert.ReferenceIdeal.S4096x1024 .bf16)

/-- What the reference holds a device holds: the input, keys and values whole, of the weights its block. -/
def Held (c : Dev Cert.KernelIdeal.nD) : Prop :=
  m ((c.tc : Thread Cert.KernelIdeal.nD Cert.KernelIdeal.τ).loc Cert.KernelIdeal.main_arg0) = X
  ∧ m ((c.tc : Thread Cert.KernelIdeal.nD Cert.KernelIdeal.τ).loc Cert.KernelIdeal.main_arg1) = Layout.block ⟨2, ![1024, 1024]⟩ ⟨2, ![1024, 4096]⟩ 1 4 c W
  ∧ m ((c.tc : Thread Cert.KernelIdeal.nD Cert.KernelIdeal.τ).loc Cert.KernelIdeal.main_arg2) = K
  ∧ m ((c.tc : Thread Cert.KernelIdeal.nD Cert.KernelIdeal.τ).loc Cert.KernelIdeal.main_arg3) = V
  ∧ m ((c.tc : Thread Cert.KernelIdeal.nD Cert.KernelIdeal.τ).loc Cert.KernelIdeal.main_arg4) = Layout.block ⟨2, ![1024, 1024]⟩ ⟨2, ![4096, 1024]⟩ 0 4 c O

variable {m X W K V O}

theorem block_cols (c : Fin 4) (W : FVec Ideal Cert.ReferenceIdeal.S1024x4096 .bf16) (t l : Fin 1024) : (Layout.block (⟨2, ![1024, 1024]⟩ : Shape) ⟨2, ![1024, 4096]⟩ 1 4 c W) (ix2 t l) = W (ix2 t (⟨1024 * c.val + l.val, by omega⟩ : Fin 4096)) := by
  refine congrArg W (funext fun a => ?_)
  fin_cases a
  · rfl
  · exact Fin.ext (show c.val * 1024 + l.val = 1024 * c.val + l.val by omega)

theorem block_rows (c : Fin 4) (O : FVec Ideal Cert.ReferenceIdeal.S4096x1024 .bf16) (l n : Fin 1024) : (Layout.block (⟨2, ![1024, 1024]⟩ : Shape) ⟨2, ![4096, 1024]⟩ 0 4 c O) (ix2 l n) = O (ix2 (⟨1024 * c.val + l.val, by omega⟩ : Fin 4096) n) := by
  refine congrArg O (funext fun a => ?_)
  fin_cases a
  · exact Fin.ext (show c.val * 1024 + l.val = 1024 * c.val + l.val by omega)
  · rfl

/-- A device's part is the reference's sum over its columns. -/
theorem share_eq (c : Dev Cert.KernelIdeal.nD) (hc : Held m X W K V O c) (hX : ∀ i, ∃ r : ℝ, X i = (r : EReal)) (hW : ∀ i, ∃ r : ℝ, W i = (r : EReal)) (hK : ∀ i, ∃ r : ℝ, K i = (r : EReal))
    (i n : Fin 1024) :
    share (ins m c) i n = ∑ k : Fin 1024, means (weights (expd (masked (scores (queries X W) K)))) V (ix2 i (⟨1024 * c.val + k.val, by have : c.val < 4 := c.isLt; omega⟩ : Fin 4096))
      * O (ix2 (⟨1024 * c.val + k.val, by have : c.val < 4 := c.isLt; omega⟩ : Fin 4096) n) := by
  obtain ⟨s, hs⟩ := bits_scale
  choose xr hX using hX
  choose wr hW using hW
  choose kr hK using hK
  have hc4 : c.val < 4 := c.isLt
  obtain ⟨h₀, h₁, h₂, h₃, h₄⟩ := hc
  have ex : (ins m c).x = shapeCast _ X Cert.KernelIdeal.Gen.shapeCasts_S1x1024x1024_S1024x1024 := (Cert.KernelIdeal.Butterfly.V1_x m c).trans (by rw [h₀])
  have ek : (ins m c).k = Cert.KernelIdeal.Butterfly.own c K := (Cert.KernelIdeal.Butterfly.V1_k m c).trans (by rw [h₂])
  have ev : (ins m c).v = Cert.KernelIdeal.Butterfly.own c V := (Cert.KernelIdeal.Butterfly.V1_v m c).trans (by rw [h₃])
  have ew : (ins m c).wq = Layout.block ⟨2, ![1024, 1024]⟩ ⟨2, ![1024, 4096]⟩ 1 4 c W := (Cert.KernelIdeal.Gen.V1_of m c Cert.KernelIdeal.main_arg1 (by decide)).trans h₁
  have eo : (ins m c).wo = Layout.block ⟨2, ![1024, 1024]⟩ ⟨2, ![4096, 1024]⟩ 0 4 c O := (Cert.KernelIdeal.Gen.V1_of m c Cert.KernelIdeal.main_arg4 (by decide)).trans h₄
  unfold share
  refine Finset.sum_congr rfl fun k _ => ?_
  rw [eo]
  refine congrArg₂ (· * ·) ?_ (block_rows c O k n)
  have hk := k.isLt
  let H : Fin 32 := ⟨8 * c.val + k.val / 128, by omega⟩
  let e : Fin 128 := ⟨k.val % 128, by omega⟩
  let h : Fin 8 := ⟨k.val / 128, by omega⟩
  have hn : (⟨1024 * c.val + k.val, by omega⟩ : Fin 4096) = ⟨H.val * 128 + e.val, by omega⟩ :=
    Fin.ext (show 1024 * c.val + k.val = (8 * c.val + k.val / 128) * 128 + k.val % 128 by omega)
  rw [hn, reference_mean (fun t => xr (ix3 (0 : Fin 1) i t)) (fun y t => wr (ix2 t (⟨H.val * 128 + y.val, by omega⟩ : Fin 4096))) (fun j y => kr (ix4 (0 : Fin 1) j H y)) s hs i e X W K V H
      (fun t => hX _) (fun y t => hW _) (fun j y => hK _)]
  refine (kernel_mean (fun t => xr (ix3 (0 : Fin 1) i t)) (fun y t => wr (ix2 t (⟨H.val * 128 + y.val, by omega⟩ : Fin 4096))) (fun j y => kr (ix4 (0 : Fin 1) j H y)) s hs i e
      (ins m c).x (ins m c).wq (ins m c).k (ins m c).v h (fun t => ?_) (fun y t => ?_) (fun j y => ?_)).trans ?_
  · rw [ex, ← hX]
    pointwise []
  · rw [ew, block_cols, ← hW]
    refine congrArg (fun z => W (ix2 t z)) (Fin.ext ?_)
    show 1024 * c.val + (128 * (k.val / 128) + y.val) = (8 * c.val + k.val / 128) * 128 + y.val
    omega
  · rw [ek, ← hK]
    exact own_apply (F := Ideal) c K h j y H rfl
  · have hv : ∀ j : Fin 1024, (ins m c).v (ix3 h j e) = V (ix4 (0 : Fin 1) j H e) := fun j => by rw [ev]; exact own_apply (F := Ideal) c V h j e H rfl
    simp only [hv]
    exact softmax_eq (fun j : Fin 1024 => sees i.val j.val)
      (fun j => score (fun t => xr (ix3 (0 : Fin 1) i t)) (fun y t => wr (ix2 t (⟨H.val * 128 + y.val, by omega⟩ : Fin 4096))) (fun y => kr (ix4 (0 : Fin 1) j H y)) s)
      (fun j => V (ix4 (0 : Fin 1) j H e)) i (sees_self i.val i.isLt)

/-- Every device's result is the reference's. -/
theorem result_eq (hc : ∀ c, Held m X W K V O c) (hX : ∀ i, ∃ r : ℝ, X i = (r : EReal)) (hW : ∀ i, ∃ r : ℝ, W i = (r : EReal)) (hK : ∀ i, ∃ r : ℝ, K i = (r : EReal))
    (d : Dev Cert.KernelIdeal.nD) :
    Cert.KernelIdeal.Gen.V3 m (outs m) d Cert.KernelIdeal.main_v21 = project (means (weights (expd (masked (scores (queries X W) K)))) V) O := by
  funext (i : Cert.ReferenceIdeal.S1x1024x1024.Idx)
  have hi : i = ix3 (0 : Fin 1) (i 1 : Fin 1024) (i 2 : Fin 1024) := by
    funext a
    fin_cases a
    · exact Subsingleton.elim (α := Fin 1) _ _
    · rfl
    · rfl
  rw [hi]
  refine (result_apply m d (i 1) (i 2)).trans (Eq.trans ?_ (Cert.ReferenceIdeal.Stages.project_apply _ O (i 1) (i 2)).symm)
  exact (Finset.sum_congr rfl fun e _ => share_eq e (hc e) hX hW hK (i 1) (i 2) : ∑ e : Fin 4, share (ins m e) (i 1) (i 2) = _).trans
    (regroup fun k => means (weights (expd (masked (scores (queries X W) K)))) V (ix2 (i 1) k) * O (ix2 k (i 2)))

/-- The query weights are real where every device's block of them is. -/
theorem whole_real (h : ∀ (c : Fin 4) (j : (⟨2, ![1024, 1024]⟩ : Shape).Idx), ∃ r : ℝ, Layout.block (⟨2, ![1024, 1024]⟩ : Shape) ⟨2, ![1024, 4096]⟩ 1 4 c W (by decide) j = (r : EReal)) :
    ∀ i, ∃ r : ℝ, W i = (r : EReal) := fun i => by
  have h₀ : (i 0).val < 1024 := (i 0).isLt
  have h₁ : (i 1).val < 4096 := (i 1).isLt
  have hi : i = ix2 (⟨(i 0).val, h₀⟩ : Fin 1024) (⟨1024 * (⟨(i 1).val / 1024, by omega⟩ : Fin 4).val + (⟨(i 1).val % 1024, by omega⟩ : Fin 1024).val,
      by show 1024 * ((i 1).val / 1024) + (i 1).val % 1024 < 4096; omega⟩ : Fin 4096) := by
    funext a
    fin_cases a
    · rfl
    · exact Fin.ext (show (i 1).val = 1024 * ((i 1).val / 1024) + (i 1).val % 1024 by omega)
  rw [hi]
  exact (block_cols _ W _ _) ▸ h _ _

end

theorem algebraic : Cert.algebraic_KernelIdeal_ReferenceIdeal_pre_finite_KernelIdeal (hPre_finite_KernelIdeal := Cert.Pre_finite_KernelIdeal.facts) := by
  intro m g m' g' hpre hargs
  letI := Cert.Pre_finite_KernelIdeal.facts
  have real := fun c => real_of_fn _ _ _ _ _ (hpre c)
  have res := result_eq (m := m) (fun c => hargs c)
    (by rw [← (hargs 0).1]; exact (real 0).1)
    (whole_real fun c j => by have := (real c).2.1 j; rw [(hargs c).2.1] at this; exact this)
    (by rw [← (hargs 0).2.2.1]; exact (real 0).2.2)
  refine ⟨Cert.ReferenceIdeal.Value.res_main_v52 m' 0, ?_, ?_⟩
  · refine (θ_run Cert.KernelIdeal.defs _ _).mono (fun r h c => ⟨((h.1 c).1.trans (res c)).trans (Cert.ReferenceIdeal.Stages.result_eq m' 0).symm, (h.1 c).2⟩)
      (Cert.KernelIdeal.Butterfly.run_main (F := Ideal) m g)
  · exact (θ_run Cert.ReferenceIdeal.defs _ _).mono (fun r h => h 0) (Cert.ReferenceIdeal.Value.run (F := Ideal) m' g')

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Bits
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  Cert.Frames.kernel, Cert.Frames.kernelIdeal, fun m g _ => Cert.Frames.kernelIdeal m g trivial,
  Cert.Frames.reference, fun m g _ => Cert.Frames.reference m g trivial, Cert.Frames.preserves, Cert.Equal.algebraic⟩

end Cert.Proof

end
